-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v18)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hInproj : Cert.Inproj.Facts) (hInprojIdeal : Cert.InprojIdeal.Facts) (hInprojRefIdeal : Cert.InprojRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Inproj_InprojIdeal
    ∧ algebraic_InprojIdeal_InprojRefIdeal (hInprojIdeal := hInprojIdeal) (hInprojRefIdeal := hInprojRefIdeal)
-- ==== Pre_finite.lean ====
abbrev S8x2048x9216 : Shape := ⟨3, ![8, 2048, 9216]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S8x2048x4096 : Shape := ⟨3, ![8, 2048, 4096]⟩
abbrev S8x2048x32 : Shape := ⟨3, ![8, 2048, 32]⟩
abbrev S_ : Shape := ⟨0, ![]⟩

class Facts : Prop where
  slices_S8x2048x9216_S8x2048x4096_0_0_4096 : S8x2048x9216.Slices ![0, 0, 4096] S8x2048x4096
  slices_S8x2048x9216_S8x2048x32_0_0_640 : S8x2048x9216.Slices ![0, 0, 640] S8x2048x32
  bcast_S_S8x2048x4096 : S_.BroadcastsInDim S8x2048x4096 (![] : Fin 0 → Fin S8x2048x4096.rank)
  bcast_S_S8x2048x32 : S_.BroadcastsInDim S8x2048x32 (![] : Fin 0 → Fin S8x2048x32.rank)
  bcast_S_S4x4096 : S_.BroadcastsInDim S4x4096 (![] : Fin 0 → Fin S4x4096.rank)
  bcast_S_S4096 : S_.BroadcastsInDim S4096 (![] : Fin 0 → Fin S4096.rank)
  bcast_S_S32 : S_.BroadcastsInDim S32 (![] : Fin 0 → Fin S32.rank)

variable [Facts]

def fn_part1 {F : FTy → Type} [FloatOps F] (main_v4 : IVec S8x2048x4096 1) (main_v7 : IVec S8x2048x32 1) (main_v10 : IVec S4x4096 1) (main_v13 : IVec S4096 1) (main_v16 : IVec S32 1) (main_v17 : FVec F S32 .f32) (main_cst_4 : FVec F S_ .f32) : IVec S8x2048x4096 1 × IVec S8x2048x32 1 × IVec S4x4096 1 × IVec S4096 1 × IVec S32 1 × IVec S32 1 :=
  let main_v18 : FVec F S32 .f32 := broadcastInDim S32 ![] bcast_S_S32 main_cst_4
  let main_v19 : IVec S32 1 := cmpf .olt main_v17 main_v18
  (main_v4, main_v7, main_v10, main_v13, main_v16, main_v19)

def fn {F : FTy → Type} [FloatOps F] (main_arg0 : FVec F S8x2048x9216 .f32) (main_arg1 : FVec F S4x4096 .f32) (main_arg2 : FVec F S4096 .f32) (main_arg3 : FVec F S32 .f32) (main_arg4 : FVec F S32 .f32) (main_arg5 : FVec F S32 .f32) (main_arg6 : FVec F S2048 .f32) : IVec S8x2048x4096 1 × IVec S8x2048x32 1 × IVec S4x4096 1 × IVec S4096 1 × IVec S32 1 × IVec S32 1 :=
  let main_v0 : FVec F S8x2048x4096 .f32 := (extractStridedSlice S8x2048x4096 ![0, 0, 4096] · slices_S8x2048x9216_S8x2048x4096_0_0_4096) main_arg0
  let main_v1 : FVec F S8x2048x32 .f32 := (extractStridedSlice S8x2048x32 ![0, 0, 640] · slices_S8x2048x9216_S8x2048x32_0_0_640) main_arg0
  let main_v2 : FVec F S8x2048x4096 .f32 := Host.absf main_v0
  let main_cst : FVec F S_ .f32 := constant S_ .f32 0x7F800000#32
  let main_v3 : FVec F S8x2048x4096 .f32 := broadcastInDim S8x2048x4096 ![] bcast_S_S8x2048x4096 main_cst
  let main_v4 : IVec S8x2048x4096 1 := cmpf .olt main_v2 main_v3
  let main_v5 : FVec F S8x2048x32 .f32 := Host.absf main_v1
  let main_cst_0 : FVec F S_ .f32 := constant S_ .f32 0x7F800000#32
  let main_v6 : FVec F S8x2048x32 .f32 := broadcastInDim S8x2048x32 ![] bcast_S_S8x2048x32 main_cst_0
  let main_v7 : IVec S8x2048x32 1 := cmpf .olt main_v5 main_v6
  let main_v8 : FVec F S4x4096 .f32 := Host.absf main_arg1
  let main_cst_1 : FVec F S_ .f32 := constant S_ .f32 0x7F800000#32
  let main_v9 : FVec F S4x4096 .f32 := broadcastInDim S4x4096 ![] bcast_S_S4x4096 main_cst_1
  let main_v10 : IVec S4x4096 1 := cmpf .olt main_v8 main_v9
  let main_v11 : FVec F S4096 .f32 := Host.absf main_arg2
  let main_cst_2 : FVec F S_ .f32 := constant S_ .f32 0x7F800000#32
  let main_v12 : FVec F S4096 .f32 := broadcastInDim S4096 ![] bcast_S_S4096 main_cst_2
  let main_v13 : IVec S4096 1 := cmpf .olt main_v11 main_v12
  let main_v14 : FVec F S32 .f32 := Host.absf main_arg3
  let main_cst_3 : FVec F S_ .f32 := constant S_ .f32 0x7F800000#32
  let main_v15 : FVec F S32 .f32 := broadcastInDim S32 ![] bcast_S_S32 main_cst_3
  let main_v16 : IVec S32 1 := cmpf .olt main_v14 main_v15
  let main_v17 : FVec F S32 .f32 := Host.absf main_arg4
  let main_cst_4 : FVec F S_ .f32 := constant S_ .f32 0x7F800000#32
  fn_part1 (F := F) main_v4 main_v7 main_v10 main_v13 main_v16 main_v17 main_cst_4
-- ==== Kernel.lean ====
abbrev S8x2048x9216 : Shape := ⟨3, ![8, 2048, 9216]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S128x2048 : Shape := ⟨2, ![128, 2048]⟩
abbrev S_ : Shape := ⟨0, ![]⟩
abbrev S1x4096 : Shape := ⟨2, ![1, 4096]⟩
abbrev S96 : Shape := ⟨1, ![96]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S8x2048x2048 : Shape := ⟨3, ![8, 2048, 2048]⟩
abbrev S1x128x2048 : Shape := ⟨3, ![1, 128, 2048]⟩
abbrev S1x128x4096 : Shape := ⟨3, ![1, 128, 4096]⟩
abbrev S1x128x128 : Shape := ⟨3, ![1, 128, 128]⟩
abbrev S136x4096 : Shape := ⟨2, ![136, 4096]⟩
abbrev S8x128x256 : Shape := ⟨3, ![8, 128, 256]⟩
abbrev S8x4096 : Shape := ⟨2, ![8, 4096]⟩
abbrev S128x4096 : Shape := ⟨2, ![128, 4096]⟩
abbrev S128x1024 : Shape := ⟨2, ![128, 1024]⟩
abbrev S128x128 : Shape := ⟨2, ![128, 128]⟩
abbrev S1x128x256 : Shape := ⟨3, ![1, 128, 256]⟩
abbrev S128x256 : Shape := ⟨2, ![128, 256]⟩
abbrev S128x1 : Shape := ⟨2, ![128, 1]⟩
abbrev S1x256 : Shape := ⟨2, ![1, 256]⟩

abbrev nBuf : Space → Nat
  | .hbm => 41
  | .vmem => 17
  | .smem => 0
  | _ => 0

abbrev bufTy : (tb : Table) → Fin (tcTables nBuf tb) → BufTy
  | .hbm, ⟨0, _⟩ => ⟨S8x2048x9216, .f32⟩
  | .hbm, ⟨1, _⟩ => ⟨S4x4096, .f32⟩
  | .hbm, ⟨2, _⟩ => ⟨S4096, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S128x2048, .i32⟩
  | .hbm, ⟨8, _⟩ => ⟨S128x2048, .i32⟩
  | .hbm, ⟨9, _⟩ => ⟨S_, .i32⟩
  | .hbm, ⟨10, _⟩ => ⟨S128x2048, .i32⟩
  | .hbm, ⟨11, _⟩ => ⟨S128x2048, .i32⟩
  | .hbm, ⟨12, _⟩ => ⟨S128x2048, .i1⟩
  | .hbm, ⟨13, _⟩ => ⟨S_, .i32⟩
  | .hbm, ⟨14, _⟩ => ⟨S128x2048, .i32⟩
  | .hbm, ⟨15, _⟩ => ⟨S128x2048, .i32⟩
  | .hbm, ⟨16, _⟩ => ⟨S_, .i32⟩
  | .hbm, ⟨17, _⟩ => ⟨S128x2048, .i32⟩
  | .hbm, ⟨18, _⟩ => ⟨S128x2048, .i32⟩
  | .hbm, ⟨19, _⟩ => ⟨S128x2048, .i1⟩
  | .hbm, ⟨20, _⟩ => ⟨S128x2048, .i1⟩
  | .hbm, ⟨21, _⟩ => ⟨S_, .f32⟩
  | .hbm, ⟨22, _⟩ => ⟨S_, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .bf16⟩
  | .hbm, ⟨27, _⟩ => ⟨S1x4096, .f32⟩
  | .hbm, ⟨28, _⟩ => ⟨S_, .f32⟩
  | .hbm, ⟨29, _⟩ => ⟨S96, .f32⟩
  | .hbm, ⟨30, _⟩ => ⟨S128, .f32⟩
  | .hbm, ⟨31, _⟩ => ⟨S1x128, .f32⟩
  | .hbm, ⟨32, _⟩ => ⟨S_, .f32⟩
  | .hbm, ⟨33, _⟩ => ⟨S96, .f32⟩
  | .hbm, ⟨34, _⟩ => ⟨S128, .f32⟩
  | .hbm, ⟨35, _⟩ => ⟨S1x128, .f32⟩
  | .hbm, ⟨36, _⟩ => ⟨S32x64, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S8x2048x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x4096, .f32⟩
  | .local _ .vmem, ⟨3, _⟩ => ⟨S1x128x4096, .f32⟩
  | .local _ .vmem, ⟨4, _⟩ => ⟨S1x128x128, .f32⟩
  | .local _ .vmem, ⟨5, _⟩ => ⟨S1x128x128, .f32⟩
  | .local _ .vmem, ⟨6, _⟩ => ⟨S4x4096, .f32⟩
  | .local _ .vmem, ⟨7, _⟩ => ⟨S1x4096, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S136x4096, .f32⟩
  | .local _ .vmem, ⟨16, _⟩ => ⟨S8x128x256, .f32⟩
  | _, _ => ⟨S8x2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x9216 : Shape := ⟨3, ![8, 2048, 9216]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S_ : Shape := ⟨0, ![]⟩
abbrev S8x3x4096 : Shape := ⟨3, ![8, 3, 4096]⟩
abbrev S8x2051x4096 : Shape := ⟨3, ![8, 2051, 4096]⟩
abbrev S1x4096 : Shape := ⟨2, ![1, 4096]⟩
abbrev S1x1x4096 : Shape := ⟨3, ![1, 1, 4096]⟩
abbrev S8x2048x1024 : Shape := ⟨3, ![8, 2048, 1024]⟩
abbrev S1x1x32 : Shape := ⟨3, ![1, 1, 32]⟩
abbrev S8x2048x32x64 : Shape := ⟨4, ![8, 2048, 32, 64]⟩
abbrev S8x2048x32x1 : Shape := ⟨4, ![8, 2048, 32, 1]⟩
abbrev S8x2048x32x64x1 : Shape := ⟨5, ![8, 2048, 32, 64, 1]⟩
abbrev S8x2048x8x1x128 : Shape := ⟨5, ![8, 2048, 8, 1, 128]⟩
abbrev S8x2048x8x4x128 : Shape := ⟨5, ![8, 2048, 8, 4, 128]⟩
abbrev S8x2048x32x128 : Shape := ⟨4, ![8, 2048, 32, 128]⟩
abbrev S8x2048x32x1x128 : Shape := ⟨5, ![8, 2048, 32, 1, 128]⟩
abbrev S8x2048x32x64x128 : Shape := ⟨5, ![8, 2048, 32, 64, 128]⟩
abbrev S8x32x64x128 : Shape := ⟨4, ![8, 32, 64, 128]⟩
abbrev S2048x8x32 : Shape := ⟨3, ![2048, 8, 32]⟩
abbrev S2048x8x32x64x128 : Shape := ⟨5, ![2048, 8, 32, 64, 128]⟩
abbrev S1x8x32 : Shape := ⟨3, ![1, 8, 32]⟩
abbrev S8x32 : Shape := ⟨2, ![8, 32]⟩
abbrev S1x8x32x64x128 : Shape := ⟨5, ![1, 8, 32, 64, 128]⟩
abbrev S8x32x1x1 : Shape := ⟨4, ![8, 32, 1, 1]⟩
abbrev S32x1 : Shape := ⟨2, ![32, 1]⟩
abbrev S1x1x32x1 : Shape := ⟨4, ![1, 1, 32, 1]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 168
  | .vmem => 0
  | .smem => 0
  | _ => 0

abbrev hbmTy0_0 (i : Nat) : BufTy := match i % 128 with
  | 0 => ⟨S8x2048x9216, .f32⟩
  | 1 => ⟨S4x4096, .f32⟩
  | 2 => ⟨S4096, .f32⟩
  | 3 => ⟨S32, .f32⟩
  | 4 => ⟨S32, .f32⟩
  | 5 => ⟨S32, .f32⟩
  | 6 => ⟨S2048, .f32⟩
  | 7 => ⟨S8x2048x2048, .f32⟩
  | 8 => ⟨S8x2048x4096, .f32⟩
  | 9 => ⟨S8x2048x32, .f32⟩
  | 10 => ⟨S_, .f32⟩
  | 11 => ⟨S8x3x4096, .f32⟩
  | 12 => ⟨S8x2051x4096, .f32⟩
  | 13 => ⟨S8x2048x4096, .f32⟩
  | 14 => ⟨S1x4096, .f32⟩
  | 15 => ⟨S4096, .f32⟩
  | 16 => ⟨S1x1x4096, .f32⟩
  | 17 => ⟨S8x2048x4096, .f32⟩
  | 18 => ⟨S8x2048x4096, .f32⟩
  | 19 => ⟨S1x1x4096, .f32⟩
  | 20 => ⟨S8x2048x4096, .f32⟩
  | 21 => ⟨S8x2048x4096, .f32⟩
  | 22 => ⟨S8x2048x4096, .f32⟩
  | 23 => ⟨S1x4096, .f32⟩
  | 24 => ⟨S4096, .f32⟩
  | 25 => ⟨S1x1x4096, .f32⟩
  | 26 => ⟨S8x2048x4096, .f32⟩
  | 27 => ⟨S8x2048x4096, .f32⟩
  | 28 => ⟨S8x2048x4096, .f32⟩
  | 29 => ⟨S8x2048x4096, .f32⟩
  | 30 => ⟨S1x4096, .f32⟩
  | 31 => ⟨S4096, .f32⟩
  | 32 => ⟨S1x1x4096, .f32⟩
  | 33 => ⟨S8x2048x4096, .f32⟩
  | 34 => ⟨S8x2048x4096, .f32⟩
  | 35 => ⟨S8x2048x4096, .f32⟩
  | 36 => ⟨S8x2048x4096, .f32⟩
  | 37 => ⟨S1x4096, .f32⟩
  | 38 => ⟨S4096, .f32⟩
  | 39 => ⟨S1x1x4096, .f32⟩
  | 40 => ⟨S8x2048x4096, .f32⟩
  | 41 => ⟨S8x2048x4096, .f32⟩
  | 42 => ⟨S8x2048x4096, .f32⟩
  | 43 => ⟨S8x2048x4096, .f32⟩
  | 44 => ⟨S8x2048x4096, .f32⟩
  | 45 => ⟨S_, .f32⟩
  | 46 => ⟨S8x2048x4096, .f32⟩
  | 47 => ⟨S8x2048x4096, .f32⟩
  | 48 => ⟨S_, .f32⟩
  | 49 => ⟨S8x2048x4096, .f32⟩
  | 50 => ⟨S8x2048x4096, .f32⟩
  | 51 => ⟨S8x2048x4096, .f32⟩
  | 52 => ⟨S8x2048x2048, .f32⟩
  | 53 => ⟨S8x2048x1024, .f32⟩
  | 54 => ⟨S8x2048x1024, .f32⟩
  | 55 => ⟨S1x1x32, .f32⟩
  | 56 => ⟨S8x2048x32, .f32⟩
  | 57 => ⟨S8x2048x32, .f32⟩
  | 58 => ⟨S_, .f32⟩
  | 59 => ⟨S8x2048x32, .f32⟩
  | 60 => ⟨S8x2048x32, .f32⟩
  | 61 => ⟨S8x2048x32, .f32⟩
  | 62 => ⟨S8x2048x32, .f32⟩
  | 63 => ⟨S8x2048x32, .i1⟩
  | 64 => ⟨S8x2048x32, .f32⟩
  | 65 => ⟨S8x2048x32, .f32⟩
  | 66 => ⟨S8x2048x32, .f32⟩
  | 67 => ⟨S8x2048x32, .f32⟩
  | 68 => ⟨S8x2048x32, .f32⟩
  | 69 => ⟨S8x2048x32, .f32⟩
  | 70 => ⟨S8x2048x32, .f32⟩
  | 71 => ⟨S8x2048x32, .f32⟩
  | 72 => ⟨S32, .f32⟩
  | 73 => ⟨S32, .f32⟩
  | 74 => ⟨S8x2048x32x64, .f32⟩
  | 75 => ⟨S8x2048x32x1, .f32⟩
  | 76 => ⟨S8x2048x32x64, .f32⟩
  | 77 => ⟨S8x2048x32x64, .f32⟩
  | 78 => ⟨S1x1x32, .f32⟩
  | 79 => ⟨S8x2048x32, .f32⟩
  | 80 => ⟨S8x2048x32, .f32⟩
  | 81 => ⟨S8x2048x32, .f32⟩
  | 82 => ⟨S8x2048x32x64x1, .f32⟩
  | 83 => ⟨S8x2048x8x1x128, .f32⟩
  | 84 => ⟨S8x2048x8x4x128, .f32⟩
  | 85 => ⟨S8x2048x32x128, .f32⟩
  | 86 => ⟨S8x2048x32x1x128, .f32⟩
  | 87 => ⟨S8x2048x32x64x128, .f32⟩
  | 88 => ⟨S8x2048x32x64x128, .f32⟩
  | 89 => ⟨S8x2048x32x64x128, .f32⟩
  | 90 => ⟨S_, .f32⟩
  | 91 => ⟨S8x32x64x128, .f32⟩
  | 92 => ⟨S2048x8x32, .f32⟩
  | 93 => ⟨S2048x8x32x64x128, .f32⟩
  | 94 => ⟨S_, .f32⟩
  | 95 => ⟨S2048x8x32x64x128, .f32⟩
  | 96 => ⟨S_, .i32⟩
  | 97 => ⟨S2048x8x32, .f32⟩
  | 98 => ⟨S2048x8x32x64x128, .f32⟩
  | 99 => ⟨S_, .i32⟩
  | 100 => ⟨S8x32x64x128, .f32⟩
  | 101 => ⟨S2048x8x32x64x128, .f32⟩
  | 102 => ⟨S_, .i32⟩
  | 103 => ⟨S_, .i1⟩
  | 104 => ⟨S_, .i32⟩
  | 105 => ⟨S_, .i32⟩
  | 106 => ⟨S1x8x32, .f32⟩
  | 107 => ⟨S8x32, .f32⟩
  | 108 => ⟨S_, .i32⟩
  | 109 => ⟨S_, .i32⟩
  | 110 => ⟨S_, .i32⟩
  | 111 => ⟨S_, .i32⟩
  | 112 => ⟨S1x8x32x64x128, .f32⟩
  | 113 => ⟨S8x32x64x128, .f32⟩
  | 114 => ⟨S8x32x1x1, .f32⟩
  | 115 => ⟨S8x32x64x128, .f32⟩
  | 116 => ⟨S8x32x64x128, .f32⟩
  | 117 => ⟨S8x32x64x128, .f32⟩
  | 118 => ⟨S1x8x32x64x128, .f32⟩
  | 119 => ⟨S_, .i32⟩
  | 120 => ⟨S_, .i32⟩
  | 121 => ⟨S_, .i32⟩
  | 122 => ⟨S_, .i32⟩
  | 123 => ⟨S2048x8x32x64x128, .f32⟩
  | 124 => ⟨S_, .i32⟩
  | 125 => ⟨S_, .i32⟩
  | 126 => ⟨S8x2048x32x64x128, .f32⟩
  | 127 => ⟨S8x2048x8x1x128, .f32⟩
  | _ => ⟨S8x2048x9216, .f32⟩

abbrev hbmTy0_1 (i : Nat) : BufTy := match i % 128 with
  | 0 => ⟨S8x2048x8x4x128, .f32⟩
  | 1 => ⟨S8x2048x32x128, .f32⟩
  | 2 => ⟨S8x2048x32x1x128, .f32⟩
  | 3 => ⟨S8x2048x32x64x128, .f32⟩
  | 4 => ⟨S8x2048x32x64x128, .f32⟩
  | 5 => ⟨S_, .f32⟩
  | 6 => ⟨S8x2048x32x64, .f32⟩
  | 7 => ⟨S32x1, .f32⟩
  | 8 => ⟨S1x1x32x1, .f32⟩
  | 9 => ⟨S8x2048x32x64, .f32⟩
  | 10 => ⟨S8x2048x32x64, .f32⟩
  | 11 => ⟨S8x2048x32x64, .f32⟩
  | 12 => ⟨S8x2048x2048, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S_, .f32⟩
  | 31 => ⟨S8x2048x1, .f32⟩
  | 32 => ⟨S8x2048x1, .f32⟩
  | 33 => ⟨S8x2048x1, .f32⟩
  | 34 => ⟨S8x2048x2048, .f32⟩
  | 35 => ⟨S8x2048x2048, .f32⟩
  | 36 => ⟨S1x1x2048, .f32⟩
  | 37 => ⟨S8x2048x2048, .f32⟩
  | 38 => ⟨S8x2048x2048, .f32⟩
  | 39 => ⟨S8x2048x2048, .bf16⟩
  | _ => ⟨S8x2048x9216, .f32⟩

abbrev hbmTy (i : Nat) : BufTy := match i / 128 with
  | 0 => hbmTy0_0 i
  | 1 => hbmTy0_1 i
  | _ => ⟨S8x2048x9216, .f32⟩

abbrev bufTy : (tb : Table) → Fin (tcTables nBuf tb) → BufTy
  | .hbm, ⟨i, _⟩ => hbmTy i
  | _, _ => ⟨S8x2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_1 : Ref sig .tc := ⟨.hbm, 94, rfl⟩
abbrev main_v64 : Ref sig .tc := ⟨.hbm, 95, rfl⟩
abbrev main_c : Ref sig .tc := ⟨.hbm, 96, rfl⟩
abbrev main_v65_0 : Ref sig .tc := ⟨.hbm, 97, rfl⟩
abbrev main_v65_1 : Ref sig .tc := ⟨.hbm, 98, rfl⟩
abbrev main_v65_2 : Ref sig .tc := ⟨.hbm, 99, rfl⟩
abbrev main_v65_3 : Ref sig .tc := ⟨.hbm, 100, rfl⟩
abbrev main_v65_4 : Ref sig .tc := ⟨.hbm, 101, rfl⟩
abbrev main_while0c_c_10 : Ref sig .tc := ⟨.hbm, 102, rfl⟩
abbrev main_while0c_v96 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_v0 : Ref sig .tc := ⟨.hbm, 106, rfl⟩
abbrev main_while0b_v96 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_c_2 : Ref sig .tc := ⟨.hbm, 111, rfl⟩
abbrev main_while0b_call3_v0 : Ref sig .tc := ⟨.hbm, 112, rfl⟩
abbrev main_while0b_v97 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_call4_v0 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_c_2 : Ref sig .tc := ⟨.hbm, 122, rfl⟩
abbrev main_while0b_v102 : Ref sig .tc := ⟨.hbm, 123, rfl⟩
abbrev main_while0b_c_10 : Ref sig .tc := ⟨.hbm, 124, rfl⟩
abbrev main_while0b_v103 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_2 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_3 : Ref sig .tc := ⟨.hbm, 152, rfl⟩
abbrev main_v83 : Ref sig .tc := ⟨.hbm, 153, rfl⟩
abbrev main_v84 : Ref sig .tc := ⟨.hbm, 154, rfl⟩
abbrev main_cst_4 : Ref sig .tc := ⟨.hbm, 155, rfl⟩
abbrev main_v85 : Ref sig .tc := ⟨.hbm, 156, rfl⟩
abbrev main_v86 : Ref sig .tc := ⟨.hbm, 157, rfl⟩
abbrev main_cst_5 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S8x2048x1024 : Shape := ⟨3, ![8, 2048, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x6x1024 : Shape := ⟨3, ![8, 6, 1024]⟩
abbrev S1x1024 : Shape := ⟨2, ![1, 1024]⟩
abbrev S1024x2816 : Shape := ⟨2, ![1024, 2816]⟩
abbrev S1x512x1024 : Shape := ⟨3, ![1, 512, 1024]⟩
abbrev S1x6x1024 : Shape := ⟨3, ![1, 6, 1024]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8x6x1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x2048x1024 : Shape := ⟨3, ![8, 2048, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x5632, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Mix.lean ====
abbrev S8x2048x1024 : Shape := ⟨3, ![8, 2048, 1024]⟩
abbrev S8x2048x2048 : Shape := ⟨3, ![8, 2048, 2048]⟩
abbrev S8x2048x9216 : Shape := ⟨3, ![8, 2048, 9216]⟩
abbrev S8x6144 : Shape := ⟨2, ![8, 6144]⟩
abbrev S1024 : Shape := ⟨1, ![1024]⟩
abbrev S1024x1024 : Shape := ⟨2, ![1024, 1024]⟩
abbrev S2048x1024 : Shape := ⟨2, ![2048, 1024]⟩
abbrev S8x6x1024 : Shape := ⟨3, ![8, 6, 1024]⟩
abbrev S1x1024 : Shape := ⟨2, ![1, 1024]⟩
abbrev S1x512x1024 : Shape := ⟨3, ![1, 512, 1024]⟩
abbrev S1x512x2048 : Shape := ⟨3, ![1, 512, 2048]⟩
abbrev S1x6x1024 : Shape := ⟨3, ![1, 6, 1024]⟩
abbrev S512x1024 : Shape := ⟨2, ![512, 1024]⟩
abbrev S512x2048 : Shape := ⟨2, ![512, 2048]⟩
abbrev S6x1024 : Shape := ⟨2, ![6, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x9216, .f32⟩
  | .hbm, ⟨3, _⟩ => ⟨S8x2048x1024, .f32⟩
  | .hbm, ⟨4, _⟩ => ⟨S8x6144, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S8x6x1024, .f32⟩
  | .hbm, ⟨10, _⟩ => ⟨S1x1024, .f32⟩
  | .hbm, ⟨11, _⟩ => ⟨S1024x1024, .bf16⟩
  | .hbm, ⟨12, _⟩ => ⟨S2048x1024, .bf16⟩
  | .hbm, ⟨13, _⟩ => ⟨S1024x1024, .bf16⟩
  | .hbm, ⟨14, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1024x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S8x2048x1024 : Shape := ⟨3, ![8, 2048, 1024]⟩
abbrev S8x2048x2048 : Shape := ⟨3, ![8, 2048, 2048]⟩
abbrev S8x2048x9216 : Shape := ⟨3, ![8, 2048, 9216]⟩
abbrev S8x6144 : Shape := ⟨2, ![8, 6144]⟩
abbrev S1024 : Shape := ⟨1, ![1024]⟩
abbrev S1024x1024 : Shape := ⟨2, ![1024, 1024]⟩
abbrev S2048x1024 : Shape := ⟨2, ![2048, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x9216, .f32⟩
  | .hbm, ⟨3, _⟩ => ⟨S8x2048x1024, .f32⟩
  | .hbm, ⟨4, _⟩ => ⟨S8x6144, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x2048, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Inproj.lean ====
abbrev S8x2048x1024 : Shape := ⟨3, ![8, 2048, 1024]⟩
abbrev S8x6144 : Shape := ⟨2, ![8, 6144]⟩
abbrev S1024 : Shape := ⟨1, ![1024]⟩
abbrev S1024x8688 : Shape := ⟨2, ![1024, 8688]⟩
abbrev S8x6x1024 : Shape := ⟨3, ![8, 6, 1024]⟩
abbrev S1024x256 : Shape := ⟨2, ![1024, 256]⟩
abbrev S1024x128 : Shape := ⟨2, ![1024, 128]⟩
abbrev S1024x64 : Shape := ⟨2, ![1024, 64]⟩
abbrev S1024x16 : Shape := ⟨2, ![1024, 16]⟩
abbrev S1024x2048 : Shape := ⟨2, ![1024, 2048]⟩
abbrev S1024x4096 : Shape := ⟨2, ![1024, 4096]⟩
abbrev S1024x32 : Shape := ⟨2, ![1024, 32]⟩
abbrev S1024x1024 : Shape := ⟨2, ![1024, 1024]⟩
abbrev S_ : Shape := ⟨0, ![]⟩
abbrev S1024x112 : Shape := ⟨2, ![1024, 112]⟩
abbrev S1024x96 : Shape := ⟨2, ![1024, 96]⟩
abbrev S1024x9216 : Shape := ⟨2, ![1024, 9216]⟩
abbrev S1x1024 : Shape := ⟨2, ![1, 1024]⟩
abbrev S8x2048x9216 : Shape := ⟨3, ![8, 2048, 9216]⟩
abbrev S1x1024x1024 : Shape := ⟨3, ![1, 1024, 1024]⟩
abbrev S1x6x1024 : Shape := ⟨3, ![1, 6, 1024]⟩
abbrev S6x1024 : Shape := ⟨2, ![6, 1024]⟩
abbrev S1024x1 : Shape := ⟨2, ![1024, 1]⟩

abbrev nBuf : Space → Nat
  | .hbm => 27
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8688, .f32⟩
  | .hbm, ⟨4, _⟩ => ⟨S8x6x1024, .f32⟩
  | .hbm, ⟨5, _⟩ => ⟨S1024x256, .f32⟩
  | .hbm, ⟨6, _⟩ => ⟨S1024x128, .f32⟩
  | .hbm, ⟨7, _⟩ => ⟨S1024x64, .f32⟩
  | .hbm, ⟨8, _⟩ => ⟨S1024x16, .f32⟩
  | .hbm, ⟨9, _⟩ => ⟨S1024x2048, .f32⟩
  | .hbm, ⟨10, _⟩ => ⟨S1024x4096, .f32⟩
  | .hbm, ⟨11, _⟩ => ⟨S1024x32, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S1024x112, .f32⟩
  | .hbm, ⟨18, _⟩ => ⟨S_, .f32⟩
  | .hbm, ⟨19, _⟩ => ⟨S1024x96, .f32⟩
  | .hbm, ⟨20, _⟩ => ⟨S_, .f32⟩
  | .hbm, ⟨21, _⟩ => ⟨S1024x256, .f32⟩
  | .hbm, ⟨22, _⟩ => ⟨S1024x1024, .f32⟩
  | .hbm, ⟨23, _⟩ => ⟨S1024x9216, .f32⟩
  | .hbm, ⟨24, _⟩ => ⟨S1024x9216, .bf16⟩
  | .hbm, ⟨25, _⟩ => ⟨S1x1024, .f32⟩
  | .hbm, ⟨26, _⟩ => ⟨S8x2048x9216, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojRefIdeal.lean ====
abbrev S8x2048x1024 : Shape := ⟨3, ![8, 2048, 1024]⟩
abbrev S8x6144 : Shape := ⟨2, ![8, 6144]⟩
abbrev S1024 : Shape := ⟨1, ![1024]⟩
abbrev S1024x8688 : Shape := ⟨2, ![1024, 8688]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8688 : Shape := ⟨3, ![8, 2048, 8688]⟩
abbrev S8x2048x256 : Shape := ⟨3, ![8, 2048, 256]⟩
abbrev S8x2048x128 : Shape := ⟨3, ![8, 2048, 128]⟩
abbrev S8x2048x64 : Shape := ⟨3, ![8, 2048, 64]⟩
abbrev S8x2048x16 : Shape := ⟨3, ![8, 2048, 16]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x112 : Shape := ⟨3, ![8, 2048, 112]⟩
abbrev S8x2048x352 : Shape := ⟨3, ![8, 2048, 352]⟩
abbrev S8x2048x9216 : Shape := ⟨3, ![8, 2048, 9216]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8688, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x8688, .f32⟩
  | .hbm, ⟨35, _⟩ => ⟨S8x2048x256, .f32⟩
  | .hbm, ⟨36, _⟩ => ⟨S8x2048x128, .f32⟩
  | .hbm, ⟨37, _⟩ => ⟨S8x2048x64, .f32⟩
  | .hbm, ⟨38, _⟩ => ⟨S8x2048x16, .f32⟩
  | .hbm, ⟨39, _⟩ => ⟨S8x2048x2048, .f32⟩
  | .hbm, ⟨40, _⟩ => ⟨S8x2048x4096, .f32⟩
  | .hbm, ⟨41, _⟩ => ⟨S8x2048x32, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x64, .f32⟩
  | .hbm, ⟨46, _⟩ => ⟨S_, .f32⟩
  | .hbm, ⟨47, _⟩ => ⟨S8x2048x112, .f32⟩
  | .hbm, ⟨48, _⟩ => ⟨S_, .f32⟩
  | .hbm, ⟨49, _⟩ => ⟨S8x2048x352, .f32⟩
  | .hbm, ⟨50, _⟩ => ⟨S8x2048x9216, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.Pipeline.ValueKit

@[expose] public section

noncomputable section

open Idealize.ShloMosaic

/-! The mathematics of one row, over the extended reals: what a row of the residual stream becomes in the combined
projection, in the gated merge and in the SwiGLU sub-layer. Each call and its reference are read to these. -/
namespace Cert.Rows

/-- The kernels multiply a sum of squares by 1/1024 where the reference divides it by 1024: the same number. -/
theorem mean_1024 (s : EReal) :
    s * Ideal.ofBits .f32 0x3A800000#32 = Ideal.div s (Ideal.ofBits .f32 0x44800000#32) := by
  have h1 : Ideal.ofBits .f32 0x3A800000#32 = ((1 / 1024 : ℝ) : EReal) := by
    simp [Ideal.ofBits, Ideal.ieee]; rw [← EReal.coe_mul]; norm_num
  have h2 : Ideal.ofBits .f32 0x44800000#32 = ((1024 : ℝ) : EReal) := by
    simp [Ideal.ofBits, Ideal.ieee]; rw [← EReal.coe_mul]; norm_num
  rw [h1, h2, Ideal.div_coe (by norm_num)]

/-- The reciprocal root mean square of a row of 1024. -/
def inv (x : Fin 1024 → EReal) : EReal :=
  Ideal.rsqrt (Ideal.div (∑ k, x k * x k) (Ideal.ofBits .f32 0x44800000#32) + Ideal.ofBits .f32 0x358637BD#32)

/-- The logistic function. -/
def sig (u : EReal) : EReal := Ideal.div 1 (1 + Ideal.exp (-u))

/-- Entry `k` of a row after the normalization with weight `w` and the modulation by `1 + sc` and `sh`. -/
def modulated (x w sc sh : Fin 1024 → EReal) (k : Fin 1024) : EReal :=
  x k * inv x * w k * (1 + sc k) + sh k

/-- The SwiGLU sub-layer's hidden entry `a`: the gate's SiLU times the up projection. -/
def hidden (h : Fin 1024 → EReal) (wg wu : Fin 1024 → Fin 2816 → EReal) (a : Fin 2816) : EReal :=
  (∑ k, h k * wg k a) * sig (∑ k, h k * wg k a) * (∑ k, h k * wu k a)

/-- The residual row plus `gt` times the normalized row `f` with weight `w`, at `j`. -/
def addNormed (x gt w f : Fin 1024 → EReal) (j : Fin 1024) : EReal :=
  x j + gt j * (f j * inv f * w j)

/-- Entry `j` of a row after the SwiGLU sub-layer. -/
def ffn (x pre sc sh gt post : Fin 1024 → EReal) (wg wu : Fin 1024 → Fin 2816 → EReal)
    (wo : Fin 2816 → Fin 1024 → EReal) (j : Fin 1024) : EReal :=
  addNormed x gt post (fun i => ∑ a, hidden (modulated x pre sc sh) wg wu a * wo a i) j

/-- The gated merge of the two branches at `k`. -/
def merged (ao : Fin 1024 → EReal) (sy : Fin 2048 → EReal) (ga gb : Fin 1024 → EReal)
    (woa : Fin 1024 → Fin 1024 → EReal) (wos : Fin 2048 → Fin 1024 → EReal) (k : Fin 1024) : EReal :=
  sig (ga k) * (∑ a, ao a * woa a k) + sig (gb k) * (∑ a, sy a * wos a k)

/-- Entry `j` of a row after the gated merge, its output projection and the normalized residual sum. -/
def mix (ao : Fin 1024 → EReal) (sy : Fin 2048 → EReal) (ga gb x gt w : Fin 1024 → EReal)
    (woa : Fin 1024 → Fin 1024 → EReal) (wos : Fin 2048 → Fin 1024 → EReal) (wout : Fin 1024 → Fin 1024 → EReal)
    (j : Fin 1024) : EReal :=
  addNormed x gt w (fun i => ∑ k, merged ao sy ga gb woa wos k * wout k i) j

end Cert.Rows

end
-- ==== Proof.FfnValue.lean ====
module

public import proofs.«01_k».proof.Proof.Rows
public import proofs.«01_k».proof.Proof.Gen.FfnIdeal.Frame
public import proofs.«01_k».proof.Proof.Gen.FfnRefIdeal.Read

@[expose] public section

set_option maxRecDepth 16384

noncomputable section

open Idealize.ShloMosaic Idealize.ShloMosaic.TcCoe Idealize.SL.Sem
open Idealize.ShloMosaic.Pipeline (Dat)

/-! The SwiGLU call: a grid point's stored block and the reference's result, both read as `Rows.ffn` of a row. -/
namespace Cert.FfnProof

section Ref
open Cert.FfnRefIdeal Cert.FfnRefIdeal.Gen Cert.FfnRefIdeal.Read

/-- The reference at row `(b, l)` and column `j`. -/
theorem ref (x0 : FVec Ideal S8x2048x1024 .f32) (x1 : FVec Ideal S8x6144 .f32) (x2 x3 : FVec Ideal S1024 .f32)
    (x4 : FVec Ideal S1024x5632 .f32) (x5 : FVec Ideal S2816x1024 .f32) (b : Fin 8) (l : Fin 2048) (j : Fin 1024) :
    val_main_v47 (F := Ideal) x0 x1 x2 x3 x4 x5 (ix3 b l j)
      = Rows.ffn (fun k => x0 (ix3 b l k)) (fun k => x2 (ix1 k)) (fun k => x1 (ix2 b ⟨4096 + k.val, by omega⟩))
          (fun k => x1 (ix2 b ⟨3072 + k.val, by omega⟩)) (fun k => x1 (ix2 b ⟨5120 + k.val, by omega⟩)) (fun k => x3 (ix1 k))
          (fun k a => x4 (ix2 k ⟨a.val, by omega⟩)) (fun k a => x4 (ix2 k ⟨2816 + a.val, by omega⟩)) (fun a k => x5 (ix2 a k)) j := by
  pointwise! [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25, val_main_v26, val_main_v27, val_main_v28, val_main_call0_v0, val_main_call0_v1, val_main_call0_cst, val_main_call0_v2, val_main_call0_v3, val_main_call0_cst_0, val_main_call0_v4, val_main_call0_v5, val_main_v29, val_main_v30, val_main_v31, val_main_v32, val_main_cst_3, val_main_v33, val_main_v34, val_main_cst_4, val_main_v35, val_main_v36, val_main_cst_5, val_main_v37, val_main_v38, val_main_v39, val_main_v40, val_main_v41, val_main_v42, val_main_v43, val_main_v44, val_main_v45, val_main_v46, val_main_v47, Rows.ffn, Rows.addNormed, Rows.hidden, Rows.modulated, Rows.inv, Rows.sig]

end Ref

section Kernel
open Cert.FfnIdeal Cert.FfnIdeal.Gen

/-- What a grid point stores, at row `r` of its block and column `j`. -/
theorem pay (x0 : FVec Ideal S1x512x1024 .f32) (x1 : FVec Ideal S1x6x1024 .f32) (x2 : FVec Ideal S1x1024 .f32)
    (x3 : FVec Ideal S1x1024 .f32) (x4 x5 : FVec Ideal S1024x2816 .bf16) (x6 : FVec Ideal S2816x1024 .bf16)
    (z : Fin 1) (r : Fin 512) (j : Fin 1024) :
    k0_pay1 (F := Ideal) (k0_pay2 x0) (k0_pay3 x1) (k0_pay4 x0 x1 x2 x4 x5) x6 x3 (ix3 z r j)
      = Rows.ffn (fun k => x0 (ix3 0 r k)) (fun k => x2 (ix2 0 k)) (fun k => x1 (ix3 0 4 k)) (fun k => x1 (ix3 0 3 k))
          (fun k => x1 (ix3 0 5 k)) (fun k => x3 (ix2 0 k)) (fun k a => x4 (ix2 k a)) (fun k a => x5 (ix2 k a))
          (fun a k => x6 (ix2 a k)) j := by
  pointwise! [k0_pay1, k0_pay2, k0_pay3, k0_pay4, Rows.mean_1024, Rows.ffn, Rows.addNormed, Rows.hidden, Rows.modulated, Rows.inv, Rows.sig]

variable (m : (ℓ : Loc nD τ sig) → Buf (Elt Ideal) ℓ)

/-- The block of every window at a grid point: point `t` handles sequence `t / 4`, its rows from `512 (t % 4)`. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0] :=
  (by decide +kernel : ∀ t : Fin grid0.N, _)

/-- The reference's composed term over the kernel's argument arrays. -/
def goal (c : Dev nD) : FVec Ideal S8x2048x1024 .f32 :=
  Cert.FfnRefIdeal.Read.val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- A grid point's stored block is the reference's result read at that block. -/
theorem point (c : Dev nD) (t : Fin cfg0.N) (y : S1x512x1024.Idx) :
    k0_pay1 (F := Ideal) (k0_pay2 (iblk m c 0 t)) (k0_pay3 (iblk m c 1 t))
        (k0_pay4 (iblk m c 0 t) (iblk m c 1 t) (iblk m c 2 t) (iblk m c 4 t) (iblk m c 5 t)) (iblk m c 6 t) (iblk m c 3 t) y
      = goal m c ((win0_7.blk t).view.emb y) := by
  rw [eq_ix3 y, eq_ix3 ((win0_7.blk t).view.emb _)]
  refine (pay _ _ _ _ _ _ _ (y 0) (y 1) (y 2)).trans (Eq.trans ?_ (ref _ _ _ _ _ _ _ _ _).symm)
  blk_point [iblk, V, idx t]

/-- The output array after the call is the reference's result. -/
theorem final (c : Dev nD) : (dats m 0 c).arrAt 7 (cfgs 0).N = goal m c := by
  refine (dats m 0 c).arrAt_eq_of_covers 7 _ (by decide +kernel) fun t _ y => ?_
  blk_simp
  rw [after0_7]
  frame_out
  exact point m c t y

end Kernel

end Cert.FfnProof

end
-- ==== Proof.SsdRun.lean ====
module

public import proofs.«01_k».proof.Proof.Gen.ReferenceIdeal.Run

@[expose] public section

set_option maxRecDepth 16384

noncomputable section

open Idealize.ShloMosaic Idealize.ShloMosaic.TcCoe Idealize.SL.Sem
open Idealize.ShloMosaic.StableHlo

/-! The run of the state-space reference: what its loop over the rows and the operations around it leave. -/
namespace Cert.SsdRun

open Cert.ReferenceIdeal Cert.ReferenceIdeal.Gen Cert.ReferenceIdeal.Value

variable {F : FTy → Type} [FloatOps F]

/-- Every buffer one trip of the loop writes. -/
abbrev tripWrites : List (Ref sig .tc) :=
  condOps_W ++ while0Ops0_W ++ while0Ops0_1_W ++ while0Ops0_2_W ++ while0Ops0_3_W ++ while0Ops0_4_W

/-- A buffer a trip does not write is as it was. -/
theorem trip_keep (V : Valuation τ sig (Elt F)) (r : Ref sig .tc) (h : r ∉ tripWrites) :
    afterL bodyI (after condOps V) (Proc.devRef .tc r) = V (Proc.devRef .tc r) := by
  simp only [tripWrites, List.mem_append, not_or] at h
  obtain ⟨⟨⟨⟨⟨h0, h1⟩, h2⟩, h3⟩, h4⟩, h5⟩ := h
  simp only [bodyI, afterL_cons, afterL_nil]
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

variable (m : (ℓ : Loc nD τ sig) → Buf (Elt F) ℓ) (ρ : Dev nD → PrngReg)

/-- A buffer the loop does not write is, after any number of trips, as it was at the loop's entry. -/
theorem loop_keep (c : Dev nD) (r : Ref sig .tc) (h : r ∉ tripWrites) :
    ∀ k, atK m k c (Proc.devRef .tc r) = entryContents preI m c (Proc.devRef .tc r)
  | 0 => rfl
  | k + 1 => (trip_keep _ r h).trans (loop_keep c r h k)

/-- The contents the operations after the loop start from. -/
def exit (c : Dev nD) : Valuation τ sig (Elt F) := after condOps (atK m 2048 c)

/-- A buffer the loop does not write is, when the loop ends, as it was at the loop's entry. -/
theorem exit_keep (c : Dev nD) (r : Ref sig .tc) (h : r ∉ tripWrites) :
    exit m c (Proc.devRef .tc r) = entryContents preI m c (Proc.devRef .tc r) := by
  unfold exit
  rw [after_of_writes_sub condOps _ condOps_writes fun h' => h (by simp only [tripWrites, List.mem_append]; exact Or.inl (Or.inl (Or.inl (Or.inl (Or.inl h')))))]
  exact loop_keep m c r h 2048

/-- The arguments end as they began. -/
theorem argument (c : Dev nD) : ∀ r ∈ [main_arg0, main_arg1, main_arg2, main_arg3, main_arg4, main_arg5, main_arg6],
    afterL postI (exit m c) (Proc.devRef .tc r) = m ((c.tc : Thread nD τ).loc r) := by
  intro r hr
  fin_cases hr <;>
  · simp only [postI, afterL_cons, afterL_nil]
    after_reads_simp
    rw [exit_keep m c _ (by decide)]
    simp only [entryContents, preI, afterL_cons, afterL_nil]
    after_reads_simp

/-- The program has no semaphore. -/
theorem quiet (s : MemSt nD τ sig (Elt F)) : s.sem = fun _ => 0 := by
  funext x
  rcases x with ⟨_, y⟩
  cases y <;> rename_i z <;> exact absurd z.isLt (Nat.not_lt_zero _)

/-- The reference's run: its result is what the operations after the loop make of the loop's exit, the arguments end as
    they began. -/
theorem run : θ_run (defs (F := F)) (onTc (τ := τ) (main (F := F))) ⟨m, fun _ => 0, ρ⟩ fun r => ∀ c : Dev nD,
      r.2.mem ((c.tc : Thread nD τ).loc main_v95) = afterL postI (exit m c) (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v95 rfl, (h c main_arg0 rfl).trans (argument m c main_arg0 (by decide)),
      (h c main_arg1 rfl).trans (argument m c main_arg1 (by decide)), (h c main_arg2 rfl).trans (argument m c main_arg2 (by decide)),
      (h c main_arg3 rfl).trans (argument m c main_arg3 (by decide)), (h c main_arg4 rfl).trans (argument m c main_arg4 (by decide)),
      (h c main_arg5 rfl).trans (argument m c main_arg5 (by decide)), (h c main_arg6 rfl).trans (argument m c main_arg6 (by decide))⟩)
    (run_fold m ρ)

/-- The reference's frame: it ends, with its arguments as they began and every counter at zero. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => (h c).2, quiet _⟩) (run m ρ)

end Cert.SsdRun

end
-- ==== Proof.SsdMath.lean ====
module

public import Idealize.ShloMosaic.Lib.Pointwise
public import Idealize.ShloMosaic.Lib.Pipeline.ValueKit

@[expose] public section

noncomputable section

open Idealize.ShloMosaic

/-! The mathematics of the state-space scan: the recurrence, its closed form over a chunk of rows, the running sum by
doubling shifts, and the finite extended reals among which all of it happens. -/
namespace Cert.SsdMath

/-! ### The recurrence -/

/-- The state before row `t`: `h ← h · exp (a t) + v t`, from zero. -/
def st (a v : ℕ → ℝ) : ℕ → ℝ
  | 0 => 0
  | t + 1 => st a v t * Real.exp (a t) + v t

/-- The running sum of `a` from row `c`, over `l` rows. -/
def run (a : ℕ → ℝ) (c l : ℕ) : ℝ := ∑ i ∈ Finset.range l, a (c + i)

/-- The state `l` rows after row `c`: the state there decayed by the rows since, and every row's addition decayed by the
    rows after it. -/
theorem st_add (a v : ℕ → ℝ) (c l : ℕ) :
    st a v (c + l) = st a v c * Real.exp (run a c l)
      + ∑ s ∈ Finset.range l, v (c + s) * Real.exp (run a c l - run a c (s + 1)) := by
  induction l with
  | zero => simp [run]
  | succ l ih =>
    have h : run a c (l + 1) = run a c l + a (c + l) := by simp [run, Finset.sum_range_succ]
    rw [← Nat.add_assoc, st, ih, Finset.sum_range_succ, sub_self, Real.exp_zero, mul_one, ← add_assoc, add_mul, h,
      Real.exp_add, mul_assoc, Finset.sum_mul]
    congr 2
    refine Finset.sum_congr rfl fun s _ => ?_
    rw [mul_assoc, ← Real.exp_add]
    congr 2
    ring

/-- A sum over the first `l + 1` of 128 rows as a sum over all of them with a mask. -/
theorem masked (f : ℕ → ℝ) (l : Fin 128) :
    ∑ s ∈ Finset.range (l.val + 1), f s = ∑ s : Fin 128, if s.val ≤ l.val then f s.val else 0 := by
  rw [Fin.sum_univ_eq_sum_range (fun s => if s ≤ l.val then f s else 0) 128, ← Finset.sum_filter]
  refine Finset.sum_congr (Finset.ext fun s => ?_) fun _ _ => rfl
  simp only [Finset.mem_range, Finset.mem_filter]
  have := l.isLt
  omega

/-- A chunk's last state. -/
theorem chunk_state (a v : ℕ → ℝ) (c : ℕ) :
    st a v c * Real.exp (run a c 128) + ∑ s : Fin 128, v (c + s.val) * Real.exp (run a c 128 - run a c (s.val + 1))
      = st a v (c + 128) := by
  rw [st_add a v c 128, Fin.sum_univ_eq_sum_range (fun s => v (c + s) * Real.exp (run a c 128 - run a c (s + 1))) 128]

/-- A row's product with its state, from the chunk's masked products and the state before the chunk: the additions are
    outer products `x t · B t n`, the row's vector is `C n`. -/
theorem chunk_row {N : ℕ} (a x : ℕ → ℝ) (B : ℕ → Fin N → ℝ) (C : Fin N → ℝ) (c : ℕ) (l : Fin 128) :
    (∑ s : Fin 128, ((∑ n, C n * B (c + s.val) n)
        * (if s.val ≤ l.val then Real.exp (run a c (l.val + 1) - run a c (s.val + 1)) else 0)) * x (c + s.val))
      + (∑ n, C n * st a (fun t => x t * B t n) c) * Real.exp (run a c (l.val + 1))
      = ∑ n, st a (fun t => x t * B t n) (c + l.val + 1) * C n := by
  have e : ∀ n, st a (fun t => x t * B t n) (c + l.val + 1) * C n
      = (∑ s : Fin 128, if s.val ≤ l.val then x (c + s.val) * B (c + s.val) n
          * Real.exp (run a c (l.val + 1) - run a c (s.val + 1)) * C n else 0)
        + (C n * st a (fun t => x t * B t n) c) * Real.exp (run a c (l.val + 1)) := by
    intro n
    rw [Nat.add_assoc, st_add, masked (fun s => x (c + s) * B (c + s) n * Real.exp (run a c (l.val + 1) - run a c (s + 1))) l,
      add_mul, Finset.sum_mul, add_comm]
    congr 1
    · refine Finset.sum_congr rfl fun s _ => ?_
      split <;> ring
    · ring
  simp only [e]
  rw [Finset.sum_add_distrib, Finset.sum_mul, Finset.sum_comm]
  congr 1
  refine Finset.sum_congr rfl fun s _ => ?_
  split
  · rw [Finset.sum_mul, Finset.sum_mul]
    refine Finset.sum_congr rfl fun n _ => ?_
    ring
  · simp

/-! ### The running sum by doubling shifts -/

/-- The sum of the last `w` entries up to `l`. -/
def win (f : ℕ → EReal) (w l : ℕ) : EReal := ∑ i ∈ Finset.range w, if i ≤ l then f (l - i) else 0

/-- One step: a window of `w`, and the window of `w` that ends `w` entries before. -/
theorem win_double (f : ℕ → EReal) (w l : ℕ) :
    win f w l + (if w ≤ l then win f w (l - w) else 0) = win f (w + w) l := by
  unfold win
  rw [Finset.sum_range_add]
  congr 1
  split
  · refine Finset.sum_congr rfl fun i _ => ?_
    by_cases h : i ≤ l - w
    · rw [if_pos h, if_pos (by omega)]; congr 1; omega
    · rw [if_neg h, if_neg (by omega)]
  · refine (Finset.sum_eq_zero fun i _ => ?_).symm
    rw [if_neg (by omega)]

/-- A window of one entry. -/
theorem win_one (f : ℕ → EReal) (l : ℕ) : win f 1 l = f l := by simp [win]

/-- A window that reaches the first entry is the running sum. -/
theorem win_all (f : ℕ → EReal) (w l : ℕ) (h : l < w) : win f w l = ∑ i ∈ Finset.range (l + 1), f i := by
  unfold win
  rw [← Finset.sum_filter, ← Finset.sum_range_reflect]
  refine Finset.sum_congr (Finset.ext fun s => ?_) fun i hi => ?_
  · simp only [Finset.mem_range, Finset.mem_filter]; omega
  · congr 1

/-! ### Finite extended reals -/

/-- Neither infinity. -/
def IsFin (x : EReal) : Prop := x ≠ ⊤ ∧ x ≠ ⊥

/-- A real number is finite. -/
theorem IsFin.coe (r : ℝ) : IsFin (r : EReal) := ⟨EReal.coe_ne_top r, EReal.coe_ne_bot r⟩

/-- A finite number is a real number. -/
theorem IsFin.eq {x : EReal} (h : IsFin x) : x = ((x.toReal : ℝ) : EReal) := (EReal.coe_toReal h.1 h.2).symm

/-- Zero is finite. -/
theorem IsFin.zero : IsFin 0 := IsFin.coe 0

/-- A sum of finite numbers is finite. -/
theorem IsFin.add {x y : EReal} (hx : IsFin x) (hy : IsFin y) : IsFin (x + y) := by
  rw [hx.eq, hy.eq, ← EReal.coe_add]; exact IsFin.coe _

/-- A product of finite numbers is finite. -/
theorem IsFin.mul {x y : EReal} (hx : IsFin x) (hy : IsFin y) : IsFin (x * y) := by
  rw [hx.eq, hy.eq, ← EReal.coe_mul]; exact IsFin.coe _

/-- The negative of a finite number is finite. -/
theorem IsFin.neg {x : EReal} (hx : IsFin x) : IsFin (-x) := by
  rw [hx.eq, ← EReal.coe_neg]; exact IsFin.coe _

/-- The exponential of a finite number is finite. -/
theorem IsFin.exp {x : EReal} (hx : IsFin x) : IsFin (Ideal.exp x) := by
  rw [hx.eq, Ideal.exp_coe]; exact IsFin.coe _

/-- The larger of two finite numbers is finite. -/
theorem IsFin.max {x y : EReal} (hx : IsFin x) (hy : IsFin y) : IsFin (Max.max x y) := by
  rcases max_choice x y with h | h <;> rw [h] <;> assumption

/-- The logistic function of a finite number is finite. -/
theorem IsFin.logistic {x : EReal} (hx : IsFin x) : IsFin (Ideal.logistic x) := by
  rw [hx.eq, Ideal.logistic_coe]; exact IsFin.coe _

/-- `log (1 + exp x)` of a finite number is finite. -/
theorem IsFin.log1p_exp {x : EReal} (hx : IsFin x) : IsFin (Ideal.log1p (Ideal.exp x)) := by
  rw [hx.eq, Ideal.exp_coe, Ideal.log1p, ← EReal.coe_one, ← EReal.coe_add, Ideal.log_coe,
    if_neg (not_le.mpr (by positivity))]
  exact IsFin.coe _

/-- A finite number less itself is zero. -/
theorem IsFin.sub_self {x : EReal} (hx : IsFin x) : x - x = 0 := by
  rw [hx.eq, ← EReal.coe_sub, _root_.sub_self, EReal.coe_zero]

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Repeating a head's value over its columns by a product with a 0/1 matrix, the value split in three: the first part is
    the whole of a number, the other two are zero where it is finite. -/
theorem expand {K : ℕ} (f e : Fin K → EReal) (h : Fin K) (he : ∀ k, e k = if k = h then 1 else 0) (hf : IsFin (f h)) :
    ((0 + ∑ k, f k * e k) + ∑ k, (f k - f k) * e k) + ∑ k, ((f k - f k) - (f k - f k)) * e k = f h := by
  have pick : ∀ g : Fin K → EReal, ∑ k, g k * e k = g h := by
    intro g
    rw [Finset.sum_eq_single h]
    · rw [he, if_pos rfl, mul_one]
    · intro k _ hk; rw [he, if_neg hk, mul_zero]
    · intro hh; exact absurd (Finset.mem_univ h) hh
  rw [pick, pick (fun k => f k - f k), pick (fun k => (f k - f k) - (f k - f k)), hf.sub_self, IsFin.zero.sub_self, zero_add,
    add_zero, add_zero]

/-- The kernel multiplies a sum by 1/2048 where the reference divides it by 2048: the same number. -/
theorem mean_2048 (s : EReal) :
    s * Ideal.ofBits .f32 0x3A000000#32 = Ideal.div s (Ideal.ofBits .f32 0x45000000#32) := by
  have h1 : Ideal.ofBits .f32 0x3A000000#32 = ((1 / 2048 : ℝ) : EReal) := by
    simp [Ideal.ofBits, Ideal.ieee]; rw [← EReal.coe_mul]; norm_num
  have h2 : Ideal.ofBits .f32 0x45000000#32 = ((2048 : ℝ) : EReal) := by
    simp [Ideal.ofBits, Ideal.ieee]; rw [← EReal.coe_mul]; norm_num
  rw [h1, h2, Ideal.div_coe (by norm_num)]

end Cert.SsdMath

end
-- ==== Proof.SsdSpec.lean ====
module

public import proofs.«01_k».proof.Proof.SsdMath

@[expose] public section

noncomputable section

open Idealize.ShloMosaic

/-! What one sequence's state-space layer computes, by row and column, in the extended reals. The parameters: `p` the
projection by row and column, `w` and `cb` the convolution's weights and bias, `db` and `al` the step's bias and the
logarithm of the decay rate by head, `ds` the skip weight by head, `nw` the last scaling. -/
namespace Cert.SsdSpec

open SsdMath

variable (p : ℕ → Fin 9216 → EReal) (w : Fin 4 → Fin 4096 → EReal) (cb : Fin 4096 → EReal) (db al ds : Fin 32 → EReal)
  (nw : Fin 2048 → EReal)

/-- The convolution's input, three rows late: zero before the first row. -/
def tap (r : ℕ) (j : Fin 4096) : EReal := if 3 ≤ r then p (r - 3) ⟨4096 + j.val, by omega⟩ else 0

/-- The convolution of the last four rows. -/
def conv (t : ℕ) (j : Fin 4096) : EReal :=
  cb j + tap p t j * w 0 j + tap p (t + 1) j * w 1 j + tap p (t + 2) j * w 2 j + tap p (t + 3) j * w 3 j

/-- Its activation. -/
def act (t : ℕ) (j : Fin 4096) : EReal := conv p w cb t j * Ideal.logistic (conv p w cb t j)

/-- The step before its softplus. -/
def raw (t : ℕ) (h : Fin 32) : EReal := p t ⟨640 + h.val, by omega⟩ + db h

/-- The softplus. -/
def soft (x : EReal) : EReal := max x 0 + Ideal.log1p (Ideal.exp (-(max x (-x))))

/-- The step. -/
def dt (t : ℕ) (h : Fin 32) : EReal := soft (raw p db t h)

/-- The logarithm of a row's decay. -/
def la (h : Fin 32) (t : ℕ) : EReal := dt p db t h * -(Ideal.exp (al h))

/-- What a row adds to the state, before its factor `B`. -/
def xd (j : Fin 2048) (t : ℕ) : EReal := act p w cb t ⟨j.val, by omega⟩ * dt p db t ⟨j.val / 64, by omega⟩

/-- The group's `B` and `C` of a row. -/
def bm (g : Fin 8) (n : Fin 128) (t : ℕ) : EReal := act p w cb t ⟨2048 + (g.val * 128 + n.val), by omega⟩
/-- The group's `C` of a row. -/
def cm (g : Fin 8) (n : Fin 128) (t : ℕ) : EReal := act p w cb t ⟨3072 + (g.val * 128 + n.val), by omega⟩

/-- The group of a column. -/
def grp (j : Fin 2048) : Fin 8 := ⟨j.val / 256, by omega⟩
/-- The head of a column. -/
def head (j : Fin 2048) : Fin 32 := ⟨j.val / 64, by omega⟩

/-- The state before row `t`. -/
def state (j : Fin 2048) (n : Fin 128) : ℕ → EReal
  | 0 => 0
  | t + 1 => state j n t * Ideal.exp (la p db al (head j) t) + xd p w cb db j t * bm p w cb (grp j) n t

/-- The scan's output with the skip. -/
def scan (t : ℕ) (j : Fin 2048) : EReal :=
  (∑ n : Fin 128, state p w cb db al j n (t + 1) * cm p w cb (grp j) n t) + ds (head j) * act p w cb t ⟨j.val, by omega⟩

/-- The gate. -/
def gate (t : ℕ) (j : Fin 2048) : EReal :=
  p t ⟨2048 + j.val, by omega⟩ * Ideal.logistic (p t ⟨2048 + j.val, by omega⟩)

/-- The gated scan. -/
def gated (t : ℕ) (j : Fin 2048) : EReal := scan p w cb db al ds t j * gate p t j

/-- A row scaled by the reciprocal root of its mean square, and by the last weights. -/
def normed (g : Fin 2048 → EReal) (nw : Fin 2048 → EReal) (j : Fin 2048) : EReal :=
  g j * Ideal.rsqrt (Ideal.div (∑ i, g i * g i) (Ideal.ofBits .f32 0x45000000#32) + Ideal.ofBits .f32 0x358637BD#32) * nw j

/-- The layer's result. -/
def out (t : ℕ) (j : Fin 2048) : EReal := normed (gated p w cb db al ds t) nw j

/-! ### Where everything is finite, the state is the recurrence over the reals -/

/-- Every number the state is made of is finite. -/
structure Finite : Prop where
  x : ∀ t (j : Fin 4096), IsFin (p t ⟨4096 + j.val, by omega⟩)
  d : ∀ t (h : Fin 32), IsFin (p t ⟨640 + h.val, by omega⟩)
  w : ∀ k j, IsFin (w k j)
  cb : ∀ j, IsFin (cb j)
  db : ∀ h, IsFin (db h)
  al : ∀ h, IsFin (al h)

variable {p w cb db al} (f : Finite p w cb db al)
include f

/-- A tap is finite. -/
theorem Finite.tap (r : ℕ) (j : Fin 4096) : IsFin (tap p r j) := by
  unfold SsdSpec.tap
  split
  · exact f.x _ _
  · exact IsFin.zero

/-- A convolved number is finite. -/
theorem Finite.conv (t : ℕ) (j : Fin 4096) : IsFin (conv p w cb t j) :=
  ((((f.cb j).add ((f.tap t j).mul (f.w 0 j))).add ((f.tap (t + 1) j).mul (f.w 1 j))).add
    ((f.tap (t + 2) j).mul (f.w 2 j))).add ((f.tap (t + 3) j).mul (f.w 3 j))

/-- Its activation is finite. -/
theorem Finite.act (t : ℕ) (j : Fin 4096) : IsFin (act p w cb t j) := (f.conv t j).mul (f.conv t j).logistic

/-- The step is finite. -/
theorem Finite.dt (t : ℕ) (h : Fin 32) : IsFin (dt p db t h) := by
  have r : IsFin (raw p db t h) := (f.d _ _).add (f.db h)
  exact (r.max IsFin.zero).add (r.max r.neg).neg.log1p_exp

/-- The logarithm of the decay is finite. -/
theorem Finite.la (h : Fin 32) (t : ℕ) : IsFin (la p db al h t) := (f.dt t h).mul (f.al h).exp.neg

/-- A column times the step is finite. -/
theorem Finite.xd (j : Fin 2048) (t : ℕ) : IsFin (xd p w cb db j t) := (f.act t _).mul (f.dt t _)

/-- `B` is finite. -/
theorem Finite.bm (g : Fin 8) (n : Fin 128) (t : ℕ) : IsFin (bm p w cb g n t) := f.act t _

/-- `C` is finite. -/
theorem Finite.cm (g : Fin 8) (n : Fin 128) (t : ℕ) : IsFin (cm p w cb g n t) := f.act t _

/-- The state, as the recurrence over the reals. -/
theorem Finite.state (j : Fin 2048) (n : Fin 128) : ∀ t, state p w cb db al j n t
    = ((st (fun t => (SsdSpec.la p db al (head j) t).toReal) (fun t => (SsdSpec.xd p w cb db j t).toReal * (SsdSpec.bm p w cb (grp j) n t).toReal) t : ℝ) : EReal)
  | 0 => rfl
  | t + 1 => by
    rw [SsdSpec.state, Finite.state j n t, (f.la (head j) t).eq, (f.xd j t).eq, (f.bm (grp j) n t).eq, Ideal.exp_coe, ← EReal.coe_mul, ← EReal.coe_mul,
      ← EReal.coe_add]
    rfl

end Cert.SsdSpec

end
-- ==== Proof.SsdRef.lean ====
module

public import proofs.«01_k».proof.Proof.SsdSpec
public import proofs.«01_k».proof.Proof.SsdRun
public import Idealize.ShloMosaic.Lib.DynamicIndex

@[expose] public section

set_option maxRecDepth 16384

noncomputable section

open Idealize.ShloMosaic Idealize.ShloMosaic.TcCoe Idealize.SL.Sem
open Idealize.ShloMosaic.StableHlo

/-! The reference of the state-space call at an index: what its operations leave, entry by entry, is the specification. -/
namespace Cert.SsdRef

open Cert.ReferenceIdeal Cert.ReferenceIdeal.Gen Cert.ReferenceIdeal.Value

variable (m : (ℓ : Loc nD τ sig) → Buf (Elt Ideal) ℓ) (c : Dev nD)

variable (x0 : FVec Ideal S8x2048x9216 .f32) (x1 : FVec Ideal S4x4096 .f32) (x2 : FVec Ideal S4096 .f32) (x3 x4 x5 : FVec Ideal S32 .f32) (x6 : FVec Ideal S2048 .f32)

/-- The convolution's input: three zero rows, then the projection's columns. -/
def padded : FVec Ideal S8x2051x4096 .f32 :=
  concatenate S8x2051x4096 1
    [⟨S8x3x4096, broadcastInDim S8x3x4096 ![] bcast_S_S8x3x4096 (constant (F := Ideal) S_ .f32 0x00000000#32)⟩,
      ⟨S8x2048x4096, extractStridedSlice S8x2048x4096 ![0, 0, 4096] x0 slices_S8x2048x9216_S8x2048x4096_0_0_4096⟩]
    concatenates_S8x3x4096_S8x2048x4096_S8x2051x4096_d1

/-- A row of the convolution's weights, over every row. -/
def wrow (w : FVec Ideal S1x4096 .f32) : FVec Ideal S8x2048x4096 .f32 :=
  broadcastInDim S8x2048x4096 ![0, 1, 2] bcast_S1x1x4096_S8x2048x4096_0_1_2
    (broadcastInDim S1x1x4096 ![2] bcast_S4096_S1x1x4096_2 (shapeCast S4096 w shapeCasts_S1x4096_S4096))

/-- The convolution. -/
def conv : FVec Ideal S8x2048x4096 .f32 :=
  addf (addf (addf (addf
    (broadcastInDim S8x2048x4096 ![0, 1, 2] bcast_S1x1x4096_S8x2048x4096_0_1_2 (broadcastInDim S1x1x4096 ![2] bcast_S4096_S1x1x4096_2 x2))
    (mulf (extractStridedSlice S8x2048x4096 ![0, 0, 0] (padded x0) slices_S8x2051x4096_S8x2048x4096_0_0_0) (wrow (extractStridedSlice S1x4096 ![0, 0] x1 slices_S4x4096_S1x4096_0_0))))
    (mulf (extractStridedSlice S8x2048x4096 ![0, 1, 0] (padded x0) slices_S8x2051x4096_S8x2048x4096_0_1_0) (wrow (extractStridedSlice S1x4096 ![1, 0] x1 slices_S4x4096_S1x4096_1_0))))
    (mulf (extractStridedSlice S8x2048x4096 ![0, 2, 0] (padded x0) slices_S8x2051x4096_S8x2048x4096_0_2_0) (wrow (extractStridedSlice S1x4096 ![2, 0] x1 slices_S4x4096_S1x4096_2_0))))
    (mulf (extractStridedSlice S8x2048x4096 ![0, 3, 0] (padded x0) slices_S8x2051x4096_S8x2048x4096_0_3_0) (wrow (extractStridedSlice S1x4096 ![3, 0] x1 slices_S4x4096_S1x4096_3_0)))

/-- One everywhere. -/
def one : FVec Ideal S8x2048x4096 .f32 := broadcastInDim S8x2048x4096 ![] bcast_S_S8x2048x4096 (constant (F := Ideal) S_ .f32 0x3F800000#32)

/-- `x / (1 + exp (-x))` of the convolution. -/
def act : FVec Ideal S8x2048x4096 .f32 :=
  mulf (conv x0 x1 x2) (Host.divf one (addf one (Host.exp (Host.negf (conv x0 x1 x2)))))

/-- The activations the operations before the loop leave. -/
theorem entry_act : entryContents preI m c (Proc.devRef .tc main_v35)
    = act (m ((c.tc : Thread nD τ).loc main_arg0)) (m ((c.tc : Thread nD τ).loc main_arg1)) (m ((c.tc : Thread nD τ).loc main_arg2)) := by
  simp only [entryContents, preI, afterL_cons, afterL_nil]
  after_reads_simp
  rfl

/-- A number everywhere among the steps. -/
def zero : FVec Ideal S8x2048x32 .f32 := broadcastInDim S8x2048x32 ![] bcast_S_S8x2048x32 (constant (F := Ideal) S_ .f32 0x00000000#32)

/-- The step before its softplus. -/
def raw : FVec Ideal S8x2048x32 .f32 :=
  addf (extractStridedSlice S8x2048x32 ![0, 0, 640] x0 slices_S8x2048x9216_S8x2048x32_0_0_640)
    (broadcastInDim S8x2048x32 ![0, 1, 2] bcast_S1x1x32_S8x2048x32_0_1_2 (broadcastInDim S1x1x32 ![2] bcast_S32_S1x1x32_2 x3))

/-- The softplus. -/
def soft (r : FVec Ideal S8x2048x32 .f32) : FVec Ideal S8x2048x32 .f32 :=
  Idealize.ShloMosaic.select (cmpf .une (subf r zero) (subf r zero)) (addf r zero)
    (addf (maximumf r zero) (Host.log1p (Host.exp (Host.negf (Host.absf (subf r zero))))))

/-- The decays. -/
def decay : FVec Ideal S8x2048x32 .f32 :=
  Host.exp (mulf (soft (raw x0 x3)) (broadcastInDim S8x2048x32 ![0, 1, 2] bcast_S1x1x32_S8x2048x32_0_1_2
    (broadcastInDim S1x1x32 ![2] bcast_S32_S1x1x32_2 (Host.negf (Host.exp x4)))))

/-- The decays the loop reads, rows first. -/
theorem entry_decay : entryContents preI m c (Proc.devRef .tc main_v65_0)
   = transpose S2048x8x32 [1, 0, 2] (decay (m ((c.tc : Thread nD τ).loc main_arg0)) (m ((c.tc : Thread nD τ).loc main_arg3)) (m ((c.tc : Thread nD τ).loc main_arg4))) transposes_S8x2048x32_S2048x8x32_1_0_2 := by
  simp only [entryContents, preI, afterL_cons, afterL_nil]
  after_reads_simp
  rfl

/-- The heads' columns of the activations. -/
def xh : FVec Ideal S8x2048x32x64 .f32 :=
  shapeCast S8x2048x32x64 (extractStridedSlice S8x2048x2048 ![0, 0, 0] (act x0 x1 x2) slices_S8x2048x4096_S8x2048x2048_0_0_0) shapeCasts_S8x2048x2048_S8x2048x32x64

/-- What every row adds to the state. -/
def added : FVec Ideal S8x2048x32x64x128 .f32 :=
  mulf
    (broadcastInDim S8x2048x32x64x128 ![0, 1, 2, 3, 4] bcast_S8x2048x32x64x1_S8x2048x32x64x128_0_1_2_3_4
      (broadcastInDim S8x2048x32x64x1 ![0, 1, 2, 3] bcast_S8x2048x32x64_S8x2048x32x64x1_0_1_2_3
        (mulf (xh x0 x1 x2) (broadcastInDim S8x2048x32x64 ![0, 1, 2, 3] bcast_S8x2048x32x1_S8x2048x32x64_0_1_2_3
          (broadcastInDim S8x2048x32x1 ![0, 1, 2] bcast_S8x2048x32_S8x2048x32x1_0_1_2 (soft (raw x0 x3)))))))
    (broadcastInDim S8x2048x32x64x128 ![0, 1, 2, 3, 4] bcast_S8x2048x32x1x128_S8x2048x32x64x128_0_1_2_3_4
      (broadcastInDim S8x2048x32x1x128 ![0, 1, 2, 4] bcast_S8x2048x32x128_S8x2048x32x1x128_0_1_2_4
        (shapeCast S8x2048x32x128 (broadcastInDim S8x2048x8x4x128 ![0, 1, 2, 3, 4] bcast_S8x2048x8x1x128_S8x2048x8x4x128_0_1_2_3_4
          (shapeCast S8x2048x8x1x128 (extractStridedSlice S8x2048x1024 ![0, 0, 2048] (act x0 x1 x2) slices_S8x2048x4096_S8x2048x1024_0_0_2048)
            shapeCasts_S8x2048x1024_S8x2048x8x1x128)) shapeCasts_S8x2048x8x4x128_S8x2048x32x128)))

/-- What the loop adds, rows first. -/
theorem entry_added : entryContents preI m c (Proc.devRef .tc main_v65_1)
   = transpose S2048x8x32x64x128 [1, 0, 2, 3, 4] (added (m ((c.tc : Thread nD τ).loc main_arg0)) (m ((c.tc : Thread nD τ).loc main_arg1)) (m ((c.tc : Thread nD τ).loc main_arg2)) (m ((c.tc : Thread nD τ).loc main_arg3))) transposes_S8x2048x32x64x128_S2048x8x32x64x128_1_0_2_3_4 := by
  simp only [entryContents, preI, afterL_cons, afterL_nil]
  after_reads_simp
  rfl

/-- The state starts at zero. -/
theorem entry_state : entryContents preI m c (Proc.devRef .tc main_v65_3)
   = broadcastInDim S8x32x64x128 ![] bcast_S_S8x32x64x128 (constant (F := Ideal) S_ .f32 0x00000000#32) := by
  simp only [entryContents, preI, afterL_cons, afterL_nil]
  after_reads_simp
  rfl

/-- The row counter starts at zero. -/
theorem entry_ctr : entryContents preI m c (Proc.devRef .tc main_v65_2)
   = constantI S_ 32 0#32 := by
  simp only [entryContents, preI, afterL_cons, afterL_nil]
  after_reads_simp
  rfl
/-- The gate columns. -/
theorem entry_z : entryContents preI m c (Proc.devRef .tc main_v0)
   = extractStridedSlice S8x2048x2048 ![0, 0, 2048] (m ((c.tc : Thread nD τ).loc main_arg0)) slices_S8x2048x9216_S8x2048x2048_0_0_2048 := by
  simp only [entryContents, preI, afterL_cons, afterL_nil]
  after_reads_simp
/-- The columns `C`. -/
theorem entry_cm : entryContents preI m c (Proc.devRef .tc main_v38)
   = extractStridedSlice S8x2048x1024 ![0, 0, 3072] (act (m ((c.tc : Thread nD τ).loc main_arg0)) (m ((c.tc : Thread nD τ).loc main_arg1)) (m ((c.tc : Thread nD τ).loc main_arg2))) slices_S8x2048x4096_S8x2048x1024_0_0_3072 := by
  simp only [entryContents, preI, afterL_cons, afterL_nil]
  after_reads_simp
  rfl
/-- The heads' columns. -/
theorem entry_xh : entryContents preI m c (Proc.devRef .tc main_v45)
   = xh (m ((c.tc : Thread nD τ).loc main_arg0)) (m ((c.tc : Thread nD τ).loc main_arg1)) (m ((c.tc : Thread nD τ).loc main_arg2)) := by
  simp only [entryContents, preI, afterL_cons, afterL_nil]
  after_reads_simp
  rfl

/-- The rows' slices of the decays start inside. -/
theorem fits3 (k : Fin 2048) : Shape.Slices S2048x8x32 ![k.val, 0, 0] S1x8x32 :=
  ⟨rfl, fun a => by fin_cases a <;> simp <;> omega⟩

/-- The rows' slices of the additions start inside. -/
theorem fits5 (k : Fin 2048) : Shape.Slices S2048x8x32x64x128 ![k.val, 0, 0, 0, 0] S1x8x32x64x128 :=
  ⟨rfl, fun a => by fin_cases a <;> simp <;> omega⟩

/-- One row's step of the state, at an index. -/
theorem step (V : Valuation τ sig (Elt Ideal)) (k : Fin 2048) (i : BitVec 32) (hi : i.toInt = k.val)
    (hV : V (Proc.devRef .tc main_v65_2) = fun _ => i) (s : FVec Ideal S8x32x64x128 .f32) (d : FVec Ideal S2048x8x32 .f32) (a : FVec Ideal S2048x8x32x64x128 .f32)
    (hs : V (Proc.devRef .tc main_v65_3) = s) (hd : V (Proc.devRef .tc main_v65_0) = d) (ha : V (Proc.devRef .tc main_v65_1) = a)
    (b : Fin 8) (h : Fin 32) (q : Fin 64) (n : Fin 128) :
    (res_main_while0b_v101 V : FVec Ideal S8x32x64x128 .f32) (ix4 b h q n) = s (ix4 b h q n) * d (ix3 k b h) + a (ix5 k b h q n) := by
  unfold res_main_while0b_v101
  rw [hV, hs, hd, ha, Host.dynamicSlice_eq_extractStridedSlice S1x8x32 d _ ![k.val, 0, 0] _ (fits3 k) (fun a => by fin_cases a <;> first | exact hi | rfl),
    Host.dynamicSlice_eq_extractStridedSlice S1x8x32x64x128 a _ ![k.val, 0, 0, 0, 0] _ (fits5 k) (fun a => by fin_cases a <;> first | exact hi | rfl)]
  pointwise

/-- One trip's rows: the trip's own row is the state it ends with, every other row is as it was. -/
theorem rows (V : Valuation τ sig (Elt Ideal)) (k : Fin 2048) (i : BitVec 32) (hi : i.toInt = k.val)
    (hV : V (Proc.devRef .tc main_v65_2) = fun _ => i) (s : FVec Ideal S8x32x64x128 .f32) (y : FVec Ideal S2048x8x32x64x128 .f32)
    (hs : res_main_while0b_v101 V = s) (hy : V (Proc.devRef .tc main_v65_4) = y)
    (r : Fin 2048) (b : Fin 8) (h : Fin 32) (q : Fin 64) (n : Fin 128) :
    (step_main_v65_4 V : FVec Ideal S2048x8x32x64x128 .f32) (ix5 r b h q n)
      = if r = k then s (ix4 b h q n) else y (ix5 r b h q n) := by
  unfold step_main_v65_4
  rw [hV, hs, hy, id]
  rw [Host.dynamicUpdateSlice_eq_updateSlice y _ _ _ ![k.val, 0, 0, 0, 0] (fun a => by fin_cases a <;> first | (simp [constantI, hi]; omega) | (simp [constantI]; done)) (fits5 k)]
  pointwise
  by_cases e : r = k
  · subst e; rw [dif_pos ⟨le_refl _, Nat.lt_succ_self _⟩, if_pos rfl]
  · rw [dif_neg (fun hh => e (Fin.ext (by omega))), if_neg e]

/-- The projection's rows of one sequence. -/
def prow (x0 : FVec Ideal S8x2048x9216 .f32) (b : Fin 8) (t : ℕ) (j : Fin 9216) : EReal := if h : t < 2048 then x0 (ix3 b ⟨t, h⟩ j) else 0

/-- A row inside the sequence. -/
theorem prow_at (x0 : FVec Ideal S8x2048x9216 .f32) (b : Fin 8) (t : Fin 2048) (j : Fin 9216) : prow x0 b t j = x0 (ix3 b t j) := by
  unfold prow; rw [dif_pos t.isLt]

/-- The padded columns are the taps. -/
theorem padded_at (b : Fin 8) (r : Fin 2051) (j : Fin 4096) : padded x0 (ix3 b r j) = SsdSpec.tap (prow x0 b) r j := by
  unfold SsdSpec.tap
  pointwise [padded]
  by_cases h : 3 ≤ r.val
  · rw [dif_neg (by omega), if_pos h]
    exact (prow_at x0 b ⟨r.val - 3, by omega⟩ _).symm
  · rw [dif_pos (by omega), if_neg h]

/-- The convolution at an index. -/
theorem conv_at (b : Fin 8) (t : Fin 2048) (j : Fin 4096) :
    conv x0 x1 x2 (ix3 b t j) = SsdSpec.conv (prow x0 b) (fun k j => x1 (ix2 k j)) (fun j => x2 (ix1 j)) t j := by
  pointwise [conv, wrow, padded_at]
  unfold SsdSpec.conv
  rw [Nat.add_comm 1 t.val, Nat.add_comm 2 t.val, Nat.add_comm 3 t.val]

/-- The activations at an index. -/
theorem act_at (b : Fin 8) (t : Fin 2048) (j : Fin 4096) :
    act x0 x1 x2 (ix3 b t j) = SsdSpec.act (prow x0 b) (fun k j => x1 (ix2 k j)) (fun j => x2 (ix1 j)) t j := by
  unfold SsdSpec.act
  rw [← conv_at]
  pointwise [act, one]
  rfl

/-- The step before its softplus. -/
theorem raw_at (b : Fin 8) (t : Fin 2048) (h : Fin 32) :
    raw x0 x3 (ix3 b t h) = SsdSpec.raw (prow x0 b) (fun h => x3 (ix1 h)) t h := by
  unfold SsdSpec.raw
  rw [prow_at]
  pointwise [raw]

/-- The softplus at an index. -/
theorem soft_at (r : FVec Ideal S8x2048x32 .f32) (b : Fin 8) (t : Fin 2048) (h : Fin 32) :
    soft r (ix3 b t h) = SsdSpec.soft (r (ix3 b t h)) := by
  unfold SsdSpec.soft
  pointwise [soft, zero]
  rw [if_neg (by simp)]
  rfl

/-- The decays at an index. -/
theorem decay_at (b : Fin 8) (t : Fin 2048) (h : Fin 32) :
    decay x0 x3 x4 (ix3 b t h) = Ideal.exp (SsdSpec.la (prow x0 b) (fun h => x3 (ix1 h)) (fun h => x4 (ix1 h)) h t) := by
  unfold SsdSpec.la SsdSpec.dt
  pointwise [decay, raw_at, soft_at]

/-- The heads' columns at an index. -/
theorem xh_at (b : Fin 8) (t : Fin 2048) (h : Fin 32) (q : Fin 64) :
    xh x0 x1 x2 (ix4 b t h q) = SsdSpec.act (prow x0 b) (fun k j => x1 (ix2 k j)) (fun j => x2 (ix1 j)) t ⟨h.val * 64 + q.val, by omega⟩ := by
  rw [← act_at]
  pointwise [xh]

/-- What a row adds, at an index. -/
theorem added_at (b : Fin 8) (t : Fin 2048) (h : Fin 32) (q : Fin 64) (n : Fin 128) :
    added x0 x1 x2 x3 (ix5 b t h q n) = SsdSpec.act (prow x0 b) (fun k j => x1 (ix2 k j)) (fun j => x2 (ix1 j)) t ⟨h.val * 64 + q.val, by omega⟩ * SsdSpec.dt (prow x0 b) (fun h => x3 (ix1 h)) t h
     * SsdSpec.act (prow x0 b) (fun k j => x1 (ix2 k j)) (fun j => x2 (ix1 j)) t ⟨2048 + (h.val / 4 * 128 + n.val), by omega⟩ := by
  rw [← xh_at, ← act_at]
  unfold SsdSpec.dt
  pointwise [added, raw_at, soft_at]

/-- The state of the reference's head `h`, column `q`, is the specification's. -/
abbrev specState (b : Fin 8) (h : Fin 32) (q : Fin 64) (n : Fin 128) (k : ℕ) : EReal :=
  SsdSpec.state (prow x0 b) (fun k j => x1 (ix2 k j)) (fun j => x2 (ix1 j)) (fun h => x3 (ix1 h)) (fun h => x4 (ix1 h)) ⟨h.val * 64 + q.val, by omega⟩ n k

/-- One step of the specification's state, by head. -/
theorem specState_succ (b : Fin 8) (h : Fin 32) (q : Fin 64) (n : Fin 128) (k : Fin 2048) :
    specState x0 x1 x2 x3 x4 b h q n (k.val + 1)
      = specState x0 x1 x2 x3 x4 b h q n k.val * decay x0 x3 x4 (ix3 b k h) + added x0 x1 x2 x3 (ix5 b k h q n) := by
  have hh : SsdSpec.head ⟨h.val * 64 + q.val, by omega⟩ = h := Fin.ext (by show (h.val * 64 + q.val) / 64 = h.val; omega)
  have hg : (h.val * 64 + q.val) / 256 = h.val / 4 := by omega
  rw [decay_at, added_at]
  unfold specState
  rw [SsdSpec.state, hh]
  unfold SsdSpec.xd SsdSpec.bm SsdSpec.grp
  congr 2
  · congr 1
    exact congrArg _ hh
  · simp only [hg]

/-- The argument arrays. -/
abbrev a0 : FVec Ideal S8x2048x9216 .f32 := m ((c.tc : Thread nD τ).loc main_arg0)
/-- The second argument: the convolution's weights. -/
abbrev a1 : FVec Ideal S4x4096 .f32 := m ((c.tc : Thread nD τ).loc main_arg1)
/-- The third: the convolution's bias. -/
abbrev a2 : FVec Ideal S4096 .f32 := m ((c.tc : Thread nD τ).loc main_arg2)
/-- The fourth: the step's bias. -/
abbrev a3 : FVec Ideal S32 .f32 := m ((c.tc : Thread nD τ).loc main_arg3)
/-- The fifth: the logarithm of the decay rate. -/
abbrev a4 : FVec Ideal S32 .f32 := m ((c.tc : Thread nD τ).loc main_arg4)
/-- The sixth: the skip weight. -/
abbrev a5 : FVec Ideal S32 .f32 := m ((c.tc : Thread nD τ).loc main_arg5)
/-- The seventh: the last scaling. -/
abbrev a6 : FVec Ideal S2048 .f32 := m ((c.tc : Thread nD τ).loc main_arg6)

/-- The carried contents after `k` trips. -/
abbrev trips (k : ℕ) : Valuation τ sig (Elt Ideal) := STEP^[k] (entryContents preI m c)

/-- The row counter after `k` trips. -/
theorem trips_ctr (k : ℕ) : trips m c k (Proc.devRef .tc main_v65_2) = fun _ => Scf.iv 0#32 1#32 k :=
  (atK_agree m c k main_v65_2 (by decide)).symm.trans (atK_ctr m c k)

/-- The decays are as they were. -/
theorem trips_decay : ∀ k : ℕ, trips m c k (Proc.devRef .tc main_v65_0)
    = transpose S2048x8x32 [1, 0, 2] (decay (a0 m c) (a3 m c) (a4 m c)) transposes_S8x2048x32_S2048x8x32_1_0_2
  | 0 => entry_decay m c
  | k + 1 => by
    unfold trips
    rw [Function.iterate_succ_apply', STEP_main_v65_0]
    exact trips_decay k

/-- The additions are as they were. -/
theorem trips_added : ∀ k : ℕ, trips m c k (Proc.devRef .tc main_v65_1)
    = transpose S2048x8x32x64x128 [1, 0, 2, 3, 4] (added (a0 m c) (a1 m c) (a2 m c) (a3 m c)) transposes_S8x2048x32x64x128_S2048x8x32x64x128_1_0_2_3_4
  | 0 => entry_added m c
  | k + 1 => by
    unfold trips
    rw [Function.iterate_succ_apply', STEP_main_v65_1]
    exact trips_added k

/-- The counter as a number. -/
theorem iv_toInt (k : Fin 2048) : (Scf.iv 0#32 1#32 k.val).toInt = k.val := by
  have h : k.val < 2048 := k.isLt
  have e : Scf.iv 0#32 1#32 k.val = BitVec.ofNat 32 k.val := by simp [Scf.iv]
  rw [e, BitVec.toInt_eq_toNat_of_lt (by simp; omega)]
  simp
  omega

/-- The state after `k` trips. -/
theorem trips_state (b : Fin 8) (h : Fin 32) (q : Fin 64) (n : Fin 128) : ∀ k : ℕ, k ≤ 2048 →
    (trips m c k (Proc.devRef .tc main_v65_3) : FVec Ideal S8x32x64x128 .f32) (ix4 b h q n)
      = specState (a0 m c) (a1 m c) (a2 m c) (a3 m c) (a4 m c) b h q n k
  | 0, _ => by
    refine (congrFun (entry_state m c) _).trans ?_
    pointwise
    rfl
  | k + 1, hk => by
    have ih := trips_state b h q n k (by omega)
    have s := step (trips m c k) ⟨k, by omega⟩ _ (iv_toInt ⟨k, by omega⟩) (trips_ctr m c k) _ _ _ rfl (trips_decay m c k) (trips_added m c k) b h q n
    unfold trips
    rw [Function.iterate_succ_apply', STEP_main_v65_3]
    refine s.trans ?_
    rw [specState_succ _ _ _ _ _ b h q n ⟨k, by omega⟩]
    refine congrArg₂ (· + ·) (congrArg₂ (· * ·) ih ?_) ?_
    · pointwise
    · pointwise

/-- The rows after `k` trips: row `r < k` is the state after it. -/
theorem trips_rows (b : Fin 8) (h : Fin 32) (q : Fin 64) (n : Fin 128) (r : Fin 2048) : ∀ k : ℕ, k ≤ 2048 → r.val < k →
    (trips m c k (Proc.devRef .tc main_v65_4) : FVec Ideal S2048x8x32x64x128 .f32) (ix5 r b h q n)
      = specState (a0 m c) (a1 m c) (a2 m c) (a3 m c) (a4 m c) b h q n (r.val + 1)
  | 0, _, h => absurd h (Nat.not_lt_zero _)
  | k + 1, hk, hr => by
    have s := rows (trips m c k) ⟨k, by omega⟩ _ (iv_toInt ⟨k, by omega⟩) (trips_ctr m c k) _ _ rfl rfl r b h q n
    have st := trips_state m c b h q n (k + 1) hk
    unfold trips at st ⊢
    rw [Function.iterate_succ_apply'] at st ⊢
    rw [STEP_main_v65_4]
    rw [STEP_main_v65_3] at st
    refine s.trans ?_
    by_cases e : r = ⟨k, by omega⟩
    · rw [if_pos e, e]; exact st
    · rw [if_neg e]
      exact trips_rows b h q n r k (by omega) (by have : r.val ≠ k := fun hh => e (Fin.ext hh); omega)

/-- The rows the loop leaves. -/
theorem exit_rows (b : Fin 8) (h : Fin 32) (q : Fin 64) (n : Fin 128) (r : Fin 2048) :
    (SsdRun.exit m c (Proc.devRef .tc main_v65_4) : FVec Ideal S2048x8x32x64x128 .f32) (ix5 r b h q n)
      = specState (a0 m c) (a1 m c) (a2 m c) (a3 m c) (a4 m c) b h q n (r.val + 1) := by
  have e : SsdRun.exit m c (Proc.devRef .tc main_v65_4) = trips m c 2048 (Proc.devRef .tc main_v65_4) :=
    (cond_keeps (atK m 2048 c) main_v65_4 (by decide)).trans (atK_agree m c 2048 main_v65_4 (by decide))
  rw [e]
  exact trips_rows m c b h q n r 2048 (le_refl _) r.isLt

/-- The scan's output, of the loop's rows. -/
def scan (y : FVec Ideal S2048x8x32x64x128 .f32) (cm : FVec Ideal S8x2048x1024 .f32) (xh : FVec Ideal S8x2048x32x64 .f32) : FVec Ideal S8x2048x2048 .f32 :=
  shapeCast S8x2048x2048 (addf
    (Host.reduceAdd (mulf (transpose S8x2048x32x64x128 [1, 0, 2, 3, 4] y transposes_S2048x8x32x64x128_S8x2048x32x64x128_1_0_2_3_4)
      (broadcastInDim S8x2048x32x64x128 ![0, 1, 2, 3, 4] bcast_S8x2048x32x1x128_S8x2048x32x64x128_0_1_2_3_4
        (broadcastInDim S8x2048x32x1x128 ![0, 1, 2, 4] bcast_S8x2048x32x128_S8x2048x32x1x128_0_1_2_4
          (shapeCast S8x2048x32x128 (broadcastInDim S8x2048x8x4x128 ![0, 1, 2, 3, 4] bcast_S8x2048x8x1x128_S8x2048x8x4x128_0_1_2_3_4
            (shapeCast S8x2048x8x1x128 cm shapeCasts_S8x2048x1024_S8x2048x8x1x128)) shapeCasts_S8x2048x8x4x128_S8x2048x32x128))))
      (constant (F := Ideal) S_ .f32 0x00000000#32) reducesTo_S8x2048x32x64x128_S8x2048x32x64_d4 h_S_)
    (mulf (broadcastInDim S8x2048x32x64 ![0, 1, 2, 3] bcast_S1x1x32x1_S8x2048x32x64_0_1_2_3
      (broadcastInDim S1x1x32x1 ![2, 3] bcast_S32x1_S1x1x32x1_2_3 (broadcastInDim S32x1 ![0] bcast_S32_S32x1_0 x5))) xh))
    shapeCasts_S8x2048x32x64_S8x2048x2048

/-- The gated scan. -/
def gated (s z : FVec Ideal S8x2048x2048 .f32) : FVec Ideal S8x2048x2048 .f32 :=
  mulf s (mulf z (Host.divf (broadcastInDim S8x2048x2048 ![] bcast_S_S8x2048x2048 (constant (F := Ideal) S_ .f32 0x3F800000#32))
    (addf (broadcastInDim S8x2048x2048 ![] bcast_S_S8x2048x2048 (constant (F := Ideal) S_ .f32 0x3F800000#32)) (Host.exp (Host.negf z)))))

/-- The rows scaled by the reciprocal root of their mean square. -/
def normed (g : FVec Ideal S8x2048x2048 .f32) : FVec Ideal S8x2048x2048 .bf16 :=
  truncf .bf16 (mulf (mulf g (broadcastInDim S8x2048x2048 ![0, 1, 2] bcast_S8x2048x1_S8x2048x2048_0_1_2
    (Host.rsqrt (addf (Host.divf (broadcastInDim S8x2048x1 ![0, 1] bcast_S8x2048_S8x2048x1_0_1
      (Host.reduceAdd (mulf g g) (constant (F := Ideal) S_ .f32 0x00000000#32) reducesTo_S8x2048x2048_S8x2048_d2 h_S_))
        (broadcastInDim S8x2048x1 ![] bcast_S_S8x2048x1 (constant (F := Ideal) S_ .f32 0x45000000#32)))
        (broadcastInDim S8x2048x1 ![] bcast_S_S8x2048x1 (constant (F := Ideal) S_ .f32 0x358637BD#32))))))
    (broadcastInDim S8x2048x2048 ![0, 1, 2] bcast_S1x1x2048_S8x2048x2048_0_1_2 (broadcastInDim S1x1x2048 ![2] bcast_S2048_S1x1x2048_2 x6))) bitsLt_bf16_f32

/-- The result, of what the loop leaves. -/
theorem post (V : Valuation τ sig (Elt Ideal)) : afterL postI V (Proc.devRef .tc main_v95)
    = normed (V (Proc.devRef .tc main_arg6)) (gated (scan (V (Proc.devRef .tc main_arg5)) (V (Proc.devRef .tc main_v65_4))
        (V (Proc.devRef .tc main_v38)) (V (Proc.devRef .tc main_v45))) (V (Proc.devRef .tc main_v0))) := by
  simp only [postI, afterL_cons, afterL_nil]
  after_reads_simp
  rfl

/-- The skip weights and the last scaling are the arguments'. -/
theorem entry_a5 : entryContents preI m c (Proc.devRef .tc main_arg5) = a5 m c := by
  simp only [entryContents, preI, afterL_cons, afterL_nil]
  after_reads_simp
/-- The last scaling. -/
theorem entry_a6 : entryContents preI m c (Proc.devRef .tc main_arg6) = a6 m c := by
  simp only [entryContents, preI, afterL_cons, afterL_nil]
  after_reads_simp

/-- The scan's output at an index, from rows that are the specification's states. -/
theorem scan_at (y : FVec Ideal S2048x8x32x64x128 .f32) (b : Fin 8) (t : Fin 2048)
    (hy : ∀ (h : Fin 32) (q : Fin 64) (n : Fin 128), y (ix5 t b h q n) = specState x0 x1 x2 x3 x4 b h q n (t.val + 1)) (j : Fin 2048) :
    scan x5 y (extractStridedSlice S8x2048x1024 ![0, 0, 3072] (act x0 x1 x2) slices_S8x2048x4096_S8x2048x1024_0_0_3072) (xh x0 x1 x2) (ix3 b t j)
      = SsdSpec.scan (prow x0 b) (fun k j => x1 (ix2 k j)) (fun j => x2 (ix1 j)) (fun h => x3 (ix1 h))
          (fun h => x4 (ix1 h)) (fun h => x5 (ix1 h)) t j := by
  pointwise [scan, hy, xh_at, act_at]
  unfold SsdSpec.scan
  have e : (⟨j.val / 64 * 64 + j.val % 64, by omega⟩ : Fin 2048) = j := Fin.ext (by dsimp only; omega)
  have e' : (⟨j.val / 64 * 64 + j.val % 64, by omega⟩ : Fin 4096) = ⟨j.val, by omega⟩ := Fin.ext (by dsimp only; omega)
  refine congrArg₂ (· + ·) (Finset.sum_congr rfl fun n _ => congrArg₂ (· * ·) ?_ ?_) (congrArg₂ (· * ·) rfl ?_)
  · exact congrArg (fun i => SsdSpec.state (prow x0 b) (fun k j => x1 (ix2 k j)) (fun j => x2 (ix1 j)) (fun h => x3 (ix1 h)) (fun h => x4 (ix1 h)) i n (t.val + 1)) e
  · unfold SsdSpec.cm SsdSpec.grp
    exact congrArg (fun i => SsdSpec.act (prow x0 b) (fun k j => x1 (ix2 k j)) (fun j => x2 (ix1 j)) t.val i) (Fin.ext (by dsimp only; omega))
  · exact congrArg (fun i => SsdSpec.act (prow x0 b) (fun k j => x1 (ix2 k j)) (fun j => x2 (ix1 j)) t.val i) e'

/-- The gated scan at an index. -/
theorem gated_at (s : FVec Ideal S8x2048x2048 .f32) (b : Fin 8) (t j : Fin 2048) :
    gated s (extractStridedSlice S8x2048x2048 ![0, 0, 2048] x0 slices_S8x2048x9216_S8x2048x2048_0_0_2048) (ix3 b t j)
      = s (ix3 b t j) * SsdSpec.gate (prow x0 b) t j := by
  unfold SsdSpec.gate
  rw [prow_at]
  pointwise [gated]
  rfl

/-- The scaled rows at an index. -/
theorem normed_at (g : FVec Ideal S8x2048x2048 .f32) (b : Fin 8) (t j : Fin 2048) :
    normed x6 g (ix3 b t j) = SsdSpec.normed (fun j => g (ix3 b t j)) (fun j => x6 (ix1 j)) j := by
  unfold SsdSpec.normed
  pointwise [normed]

/-- The reference's result at an index. -/
theorem result (b : Fin 8) (t j : Fin 2048) :
    (afterL postI (SsdRun.exit m c) (Proc.devRef .tc main_v95) : FVec Ideal S8x2048x2048 .bf16) (ix3 b t j)
      = SsdSpec.out (prow (a0 m c) b) (fun k j => a1 m c (ix2 k j)) (fun j => a2 m c (ix1 j)) (fun h => a3 m c (ix1 h))
          (fun h => a4 m c (ix1 h)) (fun h => a5 m c (ix1 h)) (fun j => a6 m c (ix1 j)) t j := by
  have e := post (SsdRun.exit m c)
  rw [SsdRun.exit_keep m c main_arg6 (by decide), SsdRun.exit_keep m c main_arg5 (by decide), SsdRun.exit_keep m c main_v38 (by decide),
    SsdRun.exit_keep m c main_v45 (by decide), SsdRun.exit_keep m c main_v0 (by decide), entry_a5, entry_a6, entry_cm, entry_xh, entry_z] at e
  refine (congrFun e _).trans ?_
  rw [normed_at]
  unfold SsdSpec.out
  congr 1
  funext i
  rw [gated_at, scan_at (a0 m c) (a1 m c) (a2 m c) (a3 m c) (a4 m c) (a5 m c) _ b t (fun h q n => exit_rows m c b h q n t)]
  rfl

end Cert.SsdRef
end
-- ==== Proof.SsdPre.lean ====
module

public import proofs.«01_k».proof.Defs
public import proofs.«01_k».proof.Proof.SsdRef
public import Idealize.ShloMosaic.Lib.WordCmp
public import Idealize.ShloMosaic.Lib.Pointwise

@[expose] public section

noncomputable section

open Idealize.ShloMosaic Idealize.ShloMosaic.TcCoe

/-! The precondition: what it says of every entry. -/
namespace Cert.SsdPre

open SsdMath

/-- The predicate's scalars broadcast to its arrays. -/
theorem facts : Cert.Pre_finite.Facts := ⟨by decide, by decide, by decide, by decide, by decide, by decide, by decide⟩

/-- A number whose absolute value is below another is finite. -/
theorem fin_of (x y : EReal) (h : FloatOps.cmpf (F := Ideal) (φ := .f32) .olt (FloatOps.absf (F := Ideal) (φ := .f32) x) y = 1#1) : IsFin x := by
  have e : max x (-x) < y := of_decide_eq_true ((WordCmp.ofBool_eq_one_iff _).mp h)
  obtain ⟨a, b⟩ := max_lt_iff.mp e
  refine ⟨ne_top_of_lt a, fun k => ne_top_of_lt b ?_⟩
  rw [k]
  rfl

/-- A block of columns at an index. -/
theorem cols_at (x : FVec Ideal KernelIdeal.S8x2048x9216 .f32) (n k : ℕ) (hn : k + n ≤ 9216)
    (h : KernelIdeal.S8x2048x9216.Slices ![0, 0, k] ⟨3, ![8, 2048, n]⟩) (b : Fin 8) (t : Fin 2048) (j : Fin n) :
    extractStridedSlice ⟨3, ![8, 2048, n]⟩ ![0, 0, k] x h (ix3 b t j) = x (ix3 b t ⟨k + j.val, by omega⟩) := by
  pointwise

open Cert.KernelIdeal in
/-- Under the precondition every number the state is made of is finite. -/
theorem finite [Cert.Pre_finite.Facts] (m : (ℓ : Loc nD τ sig) → Buf (Elt Ideal) ℓ) (h : Cert.Pre_KernelIdeal_finite m) (c : Dev nD) (b : Fin 8) :
    SsdSpec.Finite (SsdRef.prow (m ((c : Thread nD τ).loc main_arg0)) b)
      (fun k j => (m ((c : Thread nD τ).loc main_arg1) : FVec Ideal S4x4096 .f32) (ix2 k j))
      (fun j => (m ((c : Thread nD τ).loc main_arg2) : FVec Ideal S4096 .f32) (ix1 j))
      (fun h => (m ((c : Thread nD τ).loc main_arg3) : FVec Ideal S32 .f32) (ix1 h))
      (fun h => (m ((c : Thread nD τ).loc main_arg4) : FVec Ideal S32 .f32) (ix1 h)) := by
  obtain ⟨h0, h0', h1, h2, h3, h4⟩ := h c
  refine ⟨fun t j => ?_, fun t j => ?_, fun k j => fin_of _ _ (congrFun h1 (ix2 k j)), fun j => fin_of _ _ (congrFun h2 (ix1 j)),
    fun j => fin_of _ _ (congrFun h3 (ix1 j)), fun j => fin_of _ _ (congrFun h4 (ix1 j))⟩ <;> unfold SsdRef.prow <;> split
  · rename_i ht
    exact (congrArg IsFin (cols_at (m ((c : Thread nD τ).loc main_arg0)) 4096 4096 (by omega) Cert.Pre_finite.Facts.slices_S8x2048x9216_S8x2048x4096_0_0_4096 b ⟨t, ht⟩ j)).mp
      (fin_of _ _ (congrFun h0 (ix3 b ⟨t, ht⟩ j)))
  · exact IsFin.zero
  · rename_i ht
    exact (congrArg IsFin (cols_at (m ((c : Thread nD τ).loc main_arg0)) 32 640 (by omega) Cert.Pre_finite.Facts.slices_S8x2048x9216_S8x2048x32_0_0_640 b ⟨t, ht⟩ j)).mp
      (fin_of _ _ (congrFun h0' (ix3 b ⟨t, ht⟩ j)))
  · exact IsFin.zero

end Cert.SsdPre

end
-- ==== Proof.SsdBlocks.lean ====
module

public import proofs.«01_k».proof.Proof.SsdRef
public import proofs.«01_k».proof.Proof.Gen.KernelIdeal.Value
public import Idealize.ShloMosaic.Lib.WordCmp

@[expose] public section

set_option maxRecDepth 16384

noncomputable section

open Idealize.ShloMosaic Idealize.ShloMosaic.TcCoe Idealize.SL.Sem

/-! What the blocks of the scan's grid points hold: the projection's rows, the parameters, and the 0/1 matrix of the heads'
columns. -/
namespace Cert.SsdBlocks

open Cert.KernelIdeal Cert.KernelIdeal.Gen

/-- The block of every window at a grid point: point `t` handles sequence `t / 16`, its rows from `128 (t % 16)`. -/
theorem idx : ∀ t : Fin cfg0.N, win0_0.index t = ![t.val / 16, t.val % 16, 1] ∧ win0_1.index t = ![t.val / 16, t.val % 16, 1]
    ∧ win0_2.index t = ![t.val / 16, t.val % 16, 5] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 16, t.val % 16, 0] :=
  (by decide +kernel : ∀ t : Fin grid0.N, _)

/-- The 0/1 matrix: row `k` is one in the columns of head `k`. -/
def heads : FVec Ideal S128x2048 .bf16 :=
  truncf .bf16 (select
    (andi (cmpi .sge (iotaInDim S128x2048 32 1) (muli (broadcastInDim S128x2048 ![] bcast_S_S128x2048 (constantI S_ 32 64#32)) (iotaInDim S128x2048 32 0)))
      (cmpi .slt (iotaInDim S128x2048 32 1) (muli (broadcastInDim S128x2048 ![] bcast_S_S128x2048 (constantI S_ 32 64#32))
        (addi (iotaInDim S128x2048 32 0) (broadcastInDim S128x2048 ![] bcast_S_S128x2048 (constantI S_ 32 1#32))))))
    (broadcastInDim S128x2048 ![] bcast_S_S128x2048 (constant (F := Ideal) S_ .f32 0x3F800000#32))
    (broadcastInDim S128x2048 ![] bcast_S_S128x2048 (constant (F := Ideal) S_ .f32 0x00000000#32))) bitsLt_bf16_f32

variable (m : (ℓ : Loc nD τ sig) → Buf (Elt Ideal) ℓ) (c : Dev nD)

/-- The 0/1 matrix as the call passes it. -/
theorem V_heads : (V m c main_v12 : FVec Ideal S128x2048 .bf16) = heads := by
  unfold V
  after_reads_simp
  rfl

/-- The convolution's bias as one row. -/
theorem V_bias : (V m c main_v13 : FVec Ideal S1x4096 .f32)
    = shapeCast S1x4096 (m ((c : Thread nD τ).loc main_arg2) : FVec Ideal S4096 .f32) shapeCasts_S4096_S1x4096 := by
  unfold V
  after_reads_simp
  rfl

/-- A head's parameter with zeros up to a whole row of lanes. -/
def lanes (x : FVec Ideal S32 .f32) : FVec Ideal S1x128 .f32 :=
  shapeCast S1x128 (concatenate S128 0 [⟨S32, x⟩, ⟨S96, broadcastInDim S96 ![] bcast_S_S96 (constant (F := Ideal) S_ .f32 0x00000000#32)⟩]
    concatenates_S32_S96_S128_d0) shapeCasts_S128_S1x128

/-- The step's bias by lane. -/
theorem V_step : (V m c main_v16 : FVec Ideal S1x128 .f32) = lanes (m ((c : Thread nD τ).loc main_arg3)) := by
  unfold V
  after_reads_simp
  rfl

/-- The logarithm of the decay rate by lane. -/
theorem V_rate : (V m c main_v19 : FVec Ideal S1x128 .f32) = lanes (m ((c : Thread nD τ).loc main_arg4)) := by
  unfold V
  after_reads_simp
  rfl

/-- A head's parameter by column. -/
def columns (x : FVec Ideal S32 .f32) : FVec Ideal S1x2048 .f32 :=
  shapeCast S1x2048 (shapeCast S2048 (broadcastInDim S32x64 ![0] bcast_S32_S32x64_0 x) shapeCasts_S32x64_S2048) shapeCasts_S2048_S1x2048

/-- The skip weight by column. -/
theorem V_skip : (V m c main_v22 : FVec Ideal S1x2048 .f32) = columns (m ((c : Thread nD τ).loc main_arg5)) := by
  unfold V
  after_reads_simp
  rfl

/-- The last scaling as one row. -/
theorem V_norm : (V m c main_v23 : FVec Ideal S1x2048 .f32)
    = shapeCast S1x2048 (m ((c : Thread nD τ).loc main_arg6) : FVec Ideal S2048 .f32) shapeCasts_S2048_S1x2048 := by
  unfold V
  after_reads_simp
  rfl

/-- The matrix at an index. -/
theorem heads_at (k : Fin 128) (j : Fin 2048) : heads (ix2 k j) = if k.val = j.val / 64 then 1 else 0 := by
  pointwise [heads]
  have e0 : IntOp.muli (64#32) (BitVec.ofNat 32 k.val) = BitVec.ofNat 32 (64 * k.val) := by
    apply BitVec.eq_of_toNat_eq; simp [IntOp.muli]
  have e1 : IntOp.muli (64#32) (IntOp.addi (BitVec.ofNat 32 k.val) 1#32) = BitVec.ofNat 32 (64 * (k.val + 1)) := by
    apply BitVec.eq_of_toNat_eq; simp [IntOp.muli, IntOp.addi]
  rw [e0, e1, WordCmp.cmpi_sge_ofNat (by omega) (by omega), WordCmp.cmpi_slt_ofNat (by omega) (by omega), WordCmp.andi_ofBool]
  unfold Scalar.select
  by_cases h : k.val = j.val / 64
  · rw [if_pos h, if_pos ((WordCmp.ofBool_eq_one_iff' _).mpr (by simp; omega))]
  · rw [if_neg h, if_neg (fun q => h (by have := (WordCmp.ofBool_eq_one_iff' _).mp q; simp at this; omega))]

/-- A head's lane holds its parameter. -/
theorem lanes_at (x : FVec Ideal S32 .f32) (h : Fin 32) : lanes x (ix2 0 ⟨h.val, by omega⟩) = x (ix1 h) := by
  pointwise [lanes]

/-- A column holds its head's parameter. -/
theorem columns_at (x : FVec Ideal S32 .f32) (j : Fin 2048) : columns x (ix2 0 j) = x (ix1 ⟨j.val / 64, by omega⟩) := by
  pointwise! [columns]

/-- A row's entry is the parameter's. -/
theorem bias_at (x : FVec Ideal S4096 .f32) (j : Fin 4096) : shapeCast S1x4096 x shapeCasts_S4096_S1x4096 (ix2 0 j) = x (ix1 j) := by
  pointwise

variable (t : Fin cfg0.N)

/-- The gate's columns of a point's rows. -/
theorem z_at (hb : t.val / 16 < 8) (l : Fin 128) (j : Fin 2048) : X0_0 m c t (ix3 0 l j)
    = SsdRef.prow (m ((c : Thread nD τ).loc main_arg0)) ⟨t.val / 16, hb⟩ (128 * (t.val % 16) + l.val) ⟨2048 + j.val, by omega⟩ := by
  have hl : 128 * (t.val % 16) + l.val < 2048 := by omega
  unfold SsdRef.prow
  rw [dif_pos hl]
  unfold X0_0 Pipeline.Window.fill
  rw [dif_pos (moved0_0 t _)]
  blk_point [iblk, V, idx t]

/-- The convolved columns of a point's rows. -/
theorem xbc_at (hb : t.val / 16 < 8) (l : Fin 128) (j : Fin 4096) : X0_1 m c t (ix3 0 l j)
    = SsdRef.prow (m ((c : Thread nD τ).loc main_arg0)) ⟨t.val / 16, hb⟩ (128 * (t.val % 16) + l.val) ⟨4096 + j.val, by omega⟩ := by
  have hl : 128 * (t.val % 16) + l.val < 2048 := by omega
  unfold SsdRef.prow
  rw [dif_pos hl]
  unfold X0_1 Pipeline.Window.fill
  rw [dif_pos (moved0_1 t _)]
  blk_point [iblk, V, idx t]

/-- The step's columns of a point's rows. -/
theorem dt_at (hb : t.val / 16 < 8) (l : Fin 128) (h : Fin 32) : (iblk m c 2 t : FVec Ideal S1x128x128 .f32) (ix3 0 l ⟨h.val, by omega⟩)
    = SsdRef.prow (m ((c : Thread nD τ).loc main_arg0)) ⟨t.val / 16, hb⟩ (128 * (t.val % 16) + l.val) ⟨640 + h.val, by omega⟩ := by
  have hl : 128 * (t.val % 16) + l.val < 2048 := by omega
  unfold SsdRef.prow
  rw [dif_pos hl]
  blk_point [iblk, V, idx t]

/-- The convolution's weights. -/
theorem w_at (k : Fin 4) (j : Fin 4096) : (iblk m c 3 t : FVec Ideal S4x4096 .f32) (ix2 k j)
    = (m ((c : Thread nD τ).loc main_arg1) : FVec Ideal S4x4096 .f32) (ix2 k j) := by
  blk_point [iblk, V, idx t]

/-- The convolution's bias. -/
theorem cb_at (j : Fin 4096) : (iblk m c 4 t : FVec Ideal S1x4096 .f32) (ix2 0 j)
    = (m ((c : Thread nD τ).loc main_arg2) : FVec Ideal S4096 .f32) (ix1 j) := by
  refine Eq.trans ?_ ((congrFun (V_bias m c) _).trans (bias_at _ j))
  blk_point [iblk, idx t]

/-- The step's bias. -/
theorem db_at (h : Fin 32) : (iblk m c 5 t : FVec Ideal S1x128 .f32) (ix2 0 ⟨h.val, by omega⟩)
    = (m ((c : Thread nD τ).loc main_arg3) : FVec Ideal S32 .f32) (ix1 h) := by
  refine Eq.trans ?_ ((congrFun (V_step m c) _).trans (lanes_at _ h))
  blk_point [iblk, idx t]

/-- The logarithm of the decay rate. -/
theorem al_at (h : Fin 32) : (iblk m c 6 t : FVec Ideal S1x128 .f32) (ix2 0 ⟨h.val, by omega⟩)
    = (m ((c : Thread nD τ).loc main_arg4) : FVec Ideal S32 .f32) (ix1 h) := by
  refine Eq.trans ?_ ((congrFun (V_rate m c) _).trans (lanes_at _ h))
  blk_point [iblk, idx t]

/-- The skip weight of a column's head. -/
theorem ds_at (j : Fin 2048) : (iblk m c 7 t : FVec Ideal S1x2048 .f32) (ix2 0 j)
    = (m ((c : Thread nD τ).loc main_arg5) : FVec Ideal S32 .f32) (ix1 (SsdSpec.head j)) := by
  refine Eq.trans ?_ ((congrFun (V_skip m c) _).trans (columns_at _ j))
  blk_point [iblk, idx t]

/-- The last scaling. -/
theorem nw_at (j : Fin 2048) : (iblk m c 8 t : FVec Ideal S1x2048 .f32) (ix2 0 j)
    = (m ((c : Thread nD τ).loc main_arg6) : FVec Ideal S2048 .f32) (ix1 j) := by
  have e : (V m c main_v23 : FVec Ideal S1x2048 .f32) (ix2 0 j) = (m ((c : Thread nD τ).loc main_arg6) : FVec Ideal S2048 .f32) (ix1 j) := by
    rw [V_norm]; pointwise
  refine Eq.trans ?_ e
  blk_point [iblk, idx t]

/-- The 0/1 matrix. -/
theorem e_at (k : Fin 128) (j : Fin 2048) : (iblk m c 9 t : FVec Ideal S128x2048 .bf16) (ix2 k j) = if k.val = j.val / 64 then (1 : EReal) else (0 : EReal) := by
  refine Eq.trans ?_ ((congrFun (V_heads m c) _).trans (heads_at k j))
  blk_point [iblk, idx t]

/-- Where a point's stored block lies in the result. -/
theorem place (y : S1x128x2048.Idx) (h0 : t.val / 16 < 8) (h1 : 128 * (t.val % 16) + (y 1).val < 2048) :
    (win0_10.blk t).view.emb y = ix3 ⟨t.val / 16, h0⟩ ⟨128 * (t.val % 16) + (y 1).val, h1⟩ (y 2) := by
  blk_ext [idx t]

end Cert.SsdBlocks

end
-- ==== Proof.SsdChunk.lean ====
module

public import proofs.«01_k».proof.Proof.SsdSpec
public import proofs.«01_k».proof.Proof.Gen.KernelIdeal.Skeleton
import Idealize.ShloMosaic.Lib.WordCmp

@[expose] public section

set_option maxRecDepth 16384

noncomputable section

open Idealize.ShloMosaic Idealize.ShloMosaic.TcCoe Idealize.SL.Sem

/-! What the state-space kernel makes of one chunk of 128 rows, at an index: its groups of heads as one function of the
group's number. -/
namespace Cert.SsdChunk

open Cert.KernelIdeal Cert.KernelIdeal.Gen

/-- The slices of a group's columns, of a head's column, of a pair's columns. -/
theorem fitsBC (g : Fin 8) : S128x1024.Slices ![0, 128 * g.val] S128x128 := ⟨rfl, fun a => by fin_cases a <;> simp <;> omega⟩
/-- A column lies in the array. -/
theorem fitsCol (h : Fin 32) : S128x128.Slices ![0, h.val] S128x1 := ⟨rfl, fun a => by fin_cases a <;> simp <;> omega⟩
/-- A row lies in the array. -/
theorem fitsRow (h : Fin 32) : S128x128.Slices ![h.val, 0] S1x128 := ⟨rfl, fun a => by fin_cases a <;> simp <;> omega⟩
/-- The columns of a pair of heads lie in the array. -/
theorem fitsPair (p : Fin 16) : S128x2048.Slices ![0, 128 * p.val] S128x128 := ⟨rfl, fun a => by fin_cases a <;> simp <;> omega⟩
/-- The columns of a group lie in the array. -/
theorem fitsGrp (g : Fin 8) : S128x2048.Slices ![0, 256 * g.val] S128x256 := ⟨rfl, fun a => by fin_cases a <;> simp <;> omega⟩
/-- A group's last row lies in the array. -/
theorem fitsLast (g : Fin 8) : S128x2048.Slices ![127, 256 * g.val] S1x256 := ⟨rfl, fun a => by fin_cases a <;> simp <;> omega⟩

section
variable (ac acT : FVec Ideal S128x128 .f32) (xd xdec : FVec Ideal S128x2048 .bf16) (causal : IVec S128x128 1) (lane : IVec S128x128 32)
  (bm cm : FVec Ideal S128x1024 .f32) (ea : FVec Ideal S128x2048 .f32) (prev : Vec Ideal S1x128x256 .f32)

/-- The group's `C`, its transposed `B`, and their product. -/
def gC (g : Fin 8) : FVec Ideal S128x128 .bf16 := truncf .bf16 (extractStridedSlice S128x128 ![0, 128 * g.val] cm (fitsBC g)) bitsLt_bf16_f32
/-- The group's `B`, transposed. -/
def gB (g : Fin 8) : FVec Ideal S128x128 .bf16 :=
  truncf .bf16 (transpose S128x128 [1, 0] (extractStridedSlice S128x128 ![0, 128 * g.val] bm (fitsBC g)) transposes_S128x128_p1_0_S128x128) bitsLt_bf16_f32
/-- The products of the group's rows of `C` and `B`. -/
def gCB (g : Fin 8) : FVec Ideal S128x128 .f32 :=
  matmul dot_S128x128_S128x128_S128x128_1_0_0_1_n_n none (gC cm g) (gB bm g) (constant S128x128 .f32 0x00000000#32)

/-- A head's masked decayed product, times its columns. -/
def headY (cb : FVec Ideal S128x128 .f32) (h : Fin 32) (x : FVec Ideal S128x128 .bf16) : FVec Ideal S128x128 .f32 :=
  matmul dot_S128x128_S128x128_S128x128_1_0_0_1_n_n none
    (truncf .bf16 (mulf cb (select causal (exp (subf
      (broadcastTo S128x128 (extractStridedSlice S128x1 ![0, h.val] ac (fitsCol h)) broadcasts_S128x1_S128x128)
      (broadcastTo S128x128 (extractStridedSlice S1x128 ![h.val, 0] acT (fitsRow h)) broadcasts_S1x128_S128x128)))
      (broadcast S128x128 (Scalar.ofBits (F := Ideal) .f32 0x00000000#32)))) bitsLt_bf16_f32)
    x (constant S128x128 .f32 0x00000000#32)

/-- Two heads side by side. -/
def pairY (cb : FVec Ideal S128x128 .f32) (p : Fin 16) : FVec Ideal S128x128 .f32 :=
  select (cmpi .slt lane (broadcast S128x128 64#32))
    (headY ac acT causal cb ⟨2 * p.val, by omega⟩ (extractStridedSlice S128x128 ![0, 128 * p.val] xd (fitsPair p)))
    (headY ac acT causal cb ⟨2 * p.val + 1, by omega⟩ (extractStridedSlice S128x128 ![0, 128 * p.val] xd (fitsPair p)))

/-- What the state before the chunk contributes to a group's rows. -/
def offY (g : Fin 8) : FVec Ideal S128x256 .f32 :=
  mulf (matmul dot_S128x128_S128x256_S128x256_1_0_0_1_n_n none (gC cm g)
    (truncf .bf16 (shapeCast S128x256 prev shapeCasts_S1x128x256_S128x256) bitsLt_bf16_f32) (constant S128x256 .f32 0x00000000#32))
    (extractStridedSlice S128x256 ![0, 256 * g.val] ea (fitsGrp g))

/-- A group's rows. -/
def gY (g : Fin 8) : FVec Ideal S128x256 .f32 :=
  addf (concatenate S128x256 1 [⟨S128x128, pairY ac acT xd causal lane (gCB bm cm g) ⟨2 * g.val, by omega⟩⟩,
      ⟨S128x128, pairY ac acT xd causal lane (gCB bm cm g) ⟨2 * g.val + 1, by omega⟩⟩] concatenates_S128x128_S128x128_S128x256_d1)
    (offY cm ea prev g)

/-- A group's state after the chunk. -/
def gS (g : Fin 8) : FVec Ideal S1x128x256 .f32 :=
  shapeCast S1x128x256 (addf
    (mulf (shapeCast S128x256 prev shapeCasts_S1x128x256_S128x256)
      (broadcastTo S128x256 (extractStridedSlice S1x256 ![127, 256 * g.val] ea (fitsLast g)) broadcasts_S1x256_S128x256))
    (matmul dot_S128x128_S128x256_S128x256_1_0_0_1_n_n none (gB bm g) (extractStridedSlice S128x256 ![0, 256 * g.val] xdec (fitsGrp g))
      (constant S128x256 .f32 0x00000000#32))) shapeCasts_S128x256_S1x128x256

/-- A group's state at an index. -/
theorem gS_at (g : Fin 8) (z : Fin 1) (n : Fin 128) (q : Fin 256) :
    gS xdec bm ea prev g (ix3 z n q) = prev (ix3 0 n q) * ea (ix2 127 ⟨256 * g.val + q.val, by omega⟩)
      + ∑ s : Fin 128, bm (ix2 s ⟨128 * g.val + n.val, by omega⟩) * xdec (ix2 s ⟨256 * g.val + q.val, by omega⟩) := by
  pointwise [gS, gB]

/-- Such a product is a sum over the state's positions. -/
theorem gCB_at (g : Fin 8) (l s : Fin 128) :
    gCB bm cm g (ix2 l s) = ∑ n : Fin 128, cm (ix2 l ⟨128 * g.val + n.val, by omega⟩) * bm (ix2 s ⟨128 * g.val + n.val, by omega⟩) := by
  pointwise [gCB, gC, gB]

/-- What the carried state adds to a row. -/
theorem offY_at (g : Fin 8) (l : Fin 128) (q : Fin 256) :
    offY cm ea prev g (ix2 l q) = (∑ n : Fin 128, cm (ix2 l ⟨128 * g.val + n.val, by omega⟩) * prev (ix3 0 n q))
      * ea (ix2 l ⟨256 * g.val + q.val, by omega⟩) := by
  pointwise [offY, gC]

/-- What a head's own rows add to a row: the rows up to it, each decayed. -/
theorem headY_at (cb : FVec Ideal S128x128 .f32) (h : Fin 32) (x : FVec Ideal S128x128 .bf16) (l q : Fin 128)
    (hc : ∀ l s : Fin 128, causal (ix2 l s) = if s.val ≤ l.val then 1#1 else 0#1)
    (hT : ∀ h s : Fin 128, acT (ix2 h s) = ac (ix2 s h)) :
    headY ac acT causal cb h x (ix2 l q) = ∑ s : Fin 128, (cb (ix2 l s)
      * (if s.val ≤ l.val then Ideal.exp (ac (ix2 l ⟨h.val, by omega⟩) - ac (ix2 s ⟨h.val, by omega⟩)) else 0)) * x (ix2 s q) := by
  pointwise [headY]
  refine Finset.sum_congr rfl fun s _ => ?_
  rw [hc, hT]
  by_cases e : s.val ≤ l.val
  · simp only [if_pos e]; rfl
  · simp only [if_neg e]
    refine Eq.trans rfl (?_ : (0 : EReal) = _)
    rw [mul_zero, zero_mul]

/-- A pair of heads: the lane chooses the head. -/
theorem pairY_at (cb : FVec Ideal S128x128 .f32) (p : Fin 16) (l q : Fin 128)
    (hl : ∀ l q : Fin 128, lane (ix2 l q) = BitVec.ofNat 32 q.val) :
    pairY ac acT xd causal lane cb p (ix2 l q) = if q.val < 64 then
      headY ac acT causal cb ⟨2 * p.val, by omega⟩ (extractStridedSlice S128x128 ![0, 128 * p.val] xd (fitsPair p)) (ix2 l q)
      else headY ac acT causal cb ⟨2 * p.val + 1, by omega⟩ (extractStridedSlice S128x128 ![0, 128 * p.val] xd (fitsPair p)) (ix2 l q) := by
  unfold pairY
  pointwise
  rw [hl]
  by_cases e : q.val < 64
  · rw [if_pos e]
    refine Eq.trans (congrArg (fun c => Scalar.select c _ _) (?_ : _ = 1#1)) rfl
    exact (WordCmp.cmpi_slt_ofNat (by omega) (by omega)).trans (congrArg BitVec.ofBool (decide_eq_true e))
  · rw [if_neg e]
    refine Eq.trans (congrArg (fun c => Scalar.select c _ _) (?_ : _ = 0#1)) rfl
    exact (WordCmp.cmpi_slt_ofNat (by omega) (by omega)).trans (congrArg BitVec.ofBool (decide_eq_false e))

/-- A group's row: what its own rows add, and what the carried state adds. -/
theorem gY_at (g : Fin 8) (l : Fin 128) (q : Fin 256)
    (hc : ∀ l s : Fin 128, causal (ix2 l s) = if s.val ≤ l.val then 1#1 else 0#1)
    (hT : ∀ h s : Fin 128, acT (ix2 h s) = ac (ix2 s h)) (hl : ∀ l q : Fin 128, lane (ix2 l q) = BitVec.ofNat 32 q.val) :
    gY ac acT xd causal lane bm cm ea prev g (ix2 l q) =
      (∑ s : Fin 128, ((∑ n : Fin 128, cm (ix2 l ⟨128 * g.val + n.val, by omega⟩) * bm (ix2 s ⟨128 * g.val + n.val, by omega⟩))
      * (if s.val ≤ l.val then Ideal.exp (ac (ix2 l ⟨4 * g.val + q.val / 64, by omega⟩) - ac (ix2 s ⟨4 * g.val + q.val / 64, by omega⟩)) else 0))
        * xd (ix2 s ⟨256 * g.val + q.val, by omega⟩))
      + (∑ n : Fin 128, cm (ix2 l ⟨128 * g.val + n.val, by omega⟩) * prev (ix3 0 n q)) * ea (ix2 l ⟨256 * g.val + q.val, by omega⟩) := by
  unfold gY
  pointwise
  rw [offY_at]
  refine congrArg (· + _) ?_
  by_cases e : q.val < 128
  · rw [dif_pos e, pairY_at _ _ _ _ _ _ _ _ _ hl]
    by_cases e' : q.val < 64
    · rw [if_pos (show q.val < 64 from e'), headY_at _ _ _ _ _ _ _ _ hc hT]
      refine Finset.sum_congr rfl fun s _ => ?_
      rw [gCB_at]
      pointwise
      have eh : (⟨2 * (2 * g.val), by omega⟩ : Fin 128) = ⟨4 * g.val + q.val / 64, by omega⟩ := Fin.ext (by dsimp only; omega)
      have ex : (⟨128 * (2 * g.val) + q.val, by omega⟩ : Fin 2048) = ⟨256 * g.val + q.val, by omega⟩ := Fin.ext (by dsimp only; omega)
      rw [eh, ex]
    · rw [if_neg (show ¬ q.val < 64 from e'), headY_at _ _ _ _ _ _ _ _ hc hT]
      refine Finset.sum_congr rfl fun s _ => ?_
      rw [gCB_at]
      pointwise
      have eh : (⟨2 * (2 * g.val) + 1, by omega⟩ : Fin 128) = ⟨4 * g.val + q.val / 64, by omega⟩ := Fin.ext (by dsimp only; omega)
      have ex : (⟨128 * (2 * g.val) + q.val, by omega⟩ : Fin 2048) = ⟨256 * g.val + q.val, by omega⟩ := Fin.ext (by dsimp only; omega)
      rw [eh, ex]
  · rw [dif_neg e, pairY_at _ _ _ _ _ _ _ _ _ hl]
    by_cases e' : q.val - 128 < 64
    · rw [if_pos (show q.val - 128 < 64 from e'), headY_at _ _ _ _ _ _ _ _ hc hT]
      refine Finset.sum_congr rfl fun s _ => ?_
      rw [gCB_at]
      pointwise
      have eh : (⟨2 * (2 * g.val + 1), by omega⟩ : Fin 128) = ⟨4 * g.val + q.val / 64, by omega⟩ := Fin.ext (by dsimp only; omega)
      have ex : (⟨128 * (2 * g.val + 1) + (q.val - 128), by omega⟩ : Fin 2048) = ⟨256 * g.val + q.val, by omega⟩ := Fin.ext (by dsimp only; omega)
      rw [eh, ex]
    · rw [if_neg (show ¬ q.val - 128 < 64 from e'), headY_at _ _ _ _ _ _ _ _ hc hT]
      refine Finset.sum_congr rfl fun s _ => ?_
      rw [gCB_at]
      pointwise
      have eh : (⟨2 * (2 * g.val + 1) + 1, by omega⟩ : Fin 128) = ⟨4 * g.val + q.val / 64, by omega⟩ := Fin.ext (by dsimp only; omega)
      have ex : (⟨128 * (2 * g.val + 1) + (q.val - 128), by omega⟩ : Fin 2048) = ⟨256 * g.val + q.val, by omega⟩ := Fin.ext (by dsimp only; omega)
      rw [eh, ex]

end
end Cert.SsdChunk
end
-- ==== Proof.SsdEarly.lean ====
module

public import proofs.«01_k».proof.Proof.SsdSpec
public import proofs.«01_k».proof.Proof.Gen.KernelIdeal.Skeleton
import Idealize.ShloMosaic.Lib.WordCmp

@[expose] public section

set_option maxRecDepth 16384

noncomputable section

open Idealize.ShloMosaic Idealize.ShloMosaic.TcCoe Idealize.SL.Sem

/-! What the state-space kernel makes of one chunk of 128 rows before and after its groups of heads, at an index. -/
namespace Cert.SsdEarly

open Cert.KernelIdeal Cert.KernelIdeal.Gen Cert.SsdMath

/-- The convolution of four rows' windows. -/
theorem conv_at (b w0 w1 w2 w3 : Vec Ideal S1x4096 .f32) (e0 e1 e2 e3 : Vec Ideal S128x4096 .f32) (l : Fin 128) (j : Fin 4096) :
    k0_pay6 b w0 e0 w1 e1 w2 e2 w3 e3 (ix2 l j) = b (ix2 0 j) + w0 (ix2 0 j) * e0 (ix2 l j) + w1 (ix2 0 j) * e1 (ix2 l j)
      + w2 (ix2 0 j) * e2 (ix2 l j) + w3 (ix2 0 j) * e3 (ix2 l j) := by
  pointwise [k0_pay6]

/-- The activated columns of `x`. -/
theorem xs_at (v : FVec Ideal S128x4096 .f32) (l : Fin 128) (j : Fin 2048) :
    k0_pay9 v (ix2 l j) = v (ix2 l ⟨j.val, by omega⟩) * Ideal.logistic (v (ix2 l ⟨j.val, by omega⟩)) := by
  pointwise [k0_pay9, k0_pay8]

/-- The activated columns of `B`. -/
theorem bm_at (v : FVec Ideal S128x4096 .f32) (l : Fin 128) (j : Fin 1024) :
    k0_pay10 v (ix2 l j) = v (ix2 l ⟨2048 + j.val, by omega⟩) * Ideal.logistic (v (ix2 l ⟨2048 + j.val, by omega⟩)) := by
  pointwise [k0_pay10, k0_pay8]

/-- The activated columns of `C`. -/
theorem cm_at (v : FVec Ideal S128x4096 .f32) (l : Fin 128) (j : Fin 1024) :
    k0_pay11 v (ix2 l j) = v (ix2 l ⟨3072 + j.val, by omega⟩) * Ideal.logistic (v (ix2 l ⟨3072 + j.val, by omega⟩)) := by
  pointwise [k0_pay11, k0_pay8]

/-- The step: the softplus of its column and bias. -/
theorem dt_at (x : Vec Ideal S1x128x128 .f32) (b : Vec Ideal S1x128 .f32) (l h : Fin 128) :
    k0_pay12 x b (ix2 l h) = SsdSpec.soft (x (ix3 0 l h) + b (ix2 0 h)) := by
  unfold SsdSpec.soft
  pointwise [k0_pay12]
  rw [zero_sub]
  rfl

/-- The decay's logarithm, of each row. -/
def la (x : Vec Ideal S1x128x128 .f32) (b a : Vec Ideal S1x128 .f32) : FVec Ideal S128x128 .f32 :=
  mulf (k0_pay12 x b) (broadcastTo S128x128 (subf (broadcast S1x128 (Scalar.ofBits (F := Ideal) .f32 0x00000000#32)) (exp (shapeCast S1x128 a shapeCasts_S1x128_S1x128))) broadcasts_S1x128_S128x128)

/-- The logarithm of a row's decay. -/
theorem la_at (x : Vec Ideal S1x128x128 .f32) (b a : Vec Ideal S1x128 .f32) (l h : Fin 128) :
    la x b a (ix2 l h) = k0_pay12 x b (ix2 l h) * -(Ideal.exp (a (ix2 0 h))) := by
  pointwise [la]
  rw [zero_sub]

/-- One doubling of the running sums. -/
def step (k : BitVec 32) (v : FVec Ideal S128x128 .f32) : FVec Ideal S128x128 .f32 :=
  addf v (select (cmpi .sge (iota .tc S128x128 32 [0] iota_S128x128_d0_w32) (broadcast S128x128 k)) (dynamicRotate 0 k none v rotates_S128x128_d0)
    (broadcast S128x128 (Scalar.ofBits (F := Ideal) .f32 0x00000000#32)))

/-- One doubling of the running sum: the row `k` above is added. -/
theorem step_at (k : ℕ) (hk : k < 128) (v : FVec Ideal S128x128 .f32) (l h : Fin 128) :
    step (BitVec.ofNat 32 k) v (ix2 l h) = v (ix2 l h) + (if e : k ≤ l.val then v (ix2 ⟨l.val - k, by omega⟩ h) else 0) := by
  pointwise [step]
  refine congrArg (v (ix2 l h) + ·) ?_
  rw [WordCmp.cmpi_sge_ofNat (by omega) (by omega)]
  by_cases e : k ≤ l.val
  · rw [dif_pos e, decide_eq_true e]
    refine Eq.trans rfl (congrArg (fun i => v (ix2 i h)) (Fin.ext ?_ : (⟨_, _⟩ : Fin 128) = ⟨l.val - k, by omega⟩))
    have := WordCmp.toNat_ofNat_of_lt (w := 32) (a := k) (by omega)
    dsimp only
    rw [this]
    omega
  · rw [dif_neg e, decide_eq_false e]
    rfl

/-- The running sums. -/
def ac (x : Vec Ideal S1x128x128 .f32) (b a : Vec Ideal S1x128 .f32) : FVec Ideal S128x128 .f32 :=
  k0_pay17 (iota .tc S128x128 32 [0] iota_S128x128_d0_w32) (k0_pay13 x b a) k0_pay14 (k0_pay15 x b a) k0_pay16

/-- The running sum is its seven doublings. -/
theorem ac_eq (x : Vec Ideal S1x128x128 .f32) (b a : Vec Ideal S1x128 .f32) :
    ac x b a = step 64#32 (step 32#32 (step 16#32 (step 8#32 (step 4#32 (step 2#32 (step 1#32 (la x b a))))))) := rfl

/-- The running sums, transposed. -/
theorem acT_at (v : FVec Ideal S128x128 .f32) (h s : Fin 128) : k0_pay25 v (ix2 h s) = v (ix2 s h) := by
  pointwise [k0_pay25]

/-- The mask keeps the rows up to a row. -/
theorem causal_at (l s : Fin 128) : k0_pay29 (ix2 l s) = if s.val ≤ l.val then 1#1 else 0#1 := by
  pointwise [k0_pay29]
  rw [WordCmp.cmpi_sge_ofNat (by omega) (by omega)]
  by_cases e : s.val ≤ l.val
  · rw [if_pos e, decide_eq_true e]; rfl
  · rw [if_neg e, decide_eq_false e]; rfl

/-- A lane's number. -/
theorem lane_at (l q : Fin 128) : iota .tc S128x128 32 [1] iota_S128x128_d1_w32 (ix2 l q) = BitVec.ofNat 32 q.val := by
  pointwise

/-- The running sums at an index: row `l`'s is the sum of the rows up to it. -/
theorem ac_at (x : Vec Ideal S1x128x128 .f32) (b a : Vec Ideal S1x128 .f32) (l h : Fin 128) (f : ℕ → EReal)
    (hf : ∀ s : Fin 128, la x b a (ix2 s h) = f s.val) : ac x b a (ix2 l h) = ∑ i ∈ Finset.range (l.val + 1), f i := by
  have go : ∀ (k : ℕ) (hk : k < 128) (v : FVec Ideal S128x128 .f32), (∀ l : Fin 128, v (ix2 l h) = win f k l.val) →
      ∀ l : Fin 128, step (BitVec.ofNat 32 k) v (ix2 l h) = win f (k + k) l.val := by
    intro k hk v hv l
    rw [step_at k hk, ← win_double, hv]
    refine congrArg (_ + ·) ?_
    by_cases e : k ≤ l.val
    · rw [dif_pos e, if_pos e, hv]
    · rw [dif_neg e, if_neg e]
  rw [ac_eq, ← win_all f 128 l.val l.isLt]
  exact go 64 (by omega) _ (go 32 (by omega) _ (go 16 (by omega) _ (go 8 (by omega) _ (go 4 (by omega) _ (go 2 (by omega) _ (go 1 (by omega) _
    fun l => (hf l).trans (win_one f l.val).symm)))))) l

/-- Copying a head's entry to the head's 64 columns by products with the 0/1 matrix. -/
theorem expand_at (f : Fin 128 → EReal) (e : FVec Ideal S128x2048 .bf16) (j : Fin 2048)
    (he : ∀ (k : Fin 128) (j : Fin 2048), e (ix2 k j) = if k.val = j.val / 64 then 1 else 0)
    (hf : IsFin (f ⟨j.val / 64, by omega⟩)) :
    (∑ k, f k * e (ix2 k j) + ∑ k, (f k - f k) * e (ix2 k j)) + ∑ k, ((f k - f k) - (f k - f k)) * e (ix2 k j)
      = f ⟨j.val / 64, by omega⟩ := by
  have := expand f (fun k => e (ix2 k j)) ⟨j.val / 64, by omega⟩ (fun k => by
    rw [he]
    by_cases q : k.val = j.val / 64
    · rw [if_pos q, if_pos (Fin.ext q)]
    · rw [if_neg q, if_neg fun c => q (congrArg Fin.val c)]) hf
  rwa [zero_add] at this

section
variable (e : FVec Ideal S128x2048 .bf16) (he : ∀ (k : Fin 128) (j : Fin 2048), e (ix2 k j) = if k.val = j.val / 64 then 1 else 0)
include he

/-- A row's decay since the chunk's start, copied to the columns. -/
theorem ea_at (v : FVec Ideal S128x128 .f32) (l : Fin 128) (j : Fin 2048) (hf : IsFin (Ideal.exp (v (ix2 l ⟨j.val / 64, by omega⟩)))) :
    k0_pay24 v e (ix2 l j) = Ideal.exp (v (ix2 l ⟨j.val / 64, by omega⟩)) := by
  pointwise [k0_pay24]
  exact expand_at (fun k => Ideal.exp (v (ix2 l k))) e j he hf

/-- A row's columns times the head's step. -/
theorem xd_at (xs : FVec Ideal S128x2048 .f32) (d : FVec Ideal S128x128 .f32) (l : Fin 128) (j : Fin 2048)
    (hf : IsFin (d (ix2 l ⟨j.val / 64, by omega⟩))) :
    k0_pay26 xs e (k0_pay20 d) (k0_pay22 d) (k0_pay23 d) (constant S128x2048 .f32 0x00000000#32) (ix2 l j) = xs (ix2 l j) * d (ix2 l ⟨j.val / 64, by omega⟩) := by
  pointwise [k0_pay26, k0_pay20, k0_pay22, k0_pay23, k0_pay21]
  exact congrArg (xs (ix2 l j) * ·) (expand_at (fun k => d (ix2 l k)) e j he hf)

/-- The columns of `x` times the step of their head. -/
theorem xdb_at (xs : FVec Ideal S128x2048 .f32) (d : FVec Ideal S128x128 .f32) (l : Fin 128) (j : Fin 2048)
    (hf : IsFin (d (ix2 l ⟨j.val / 64, by omega⟩))) :
    k0_pay27 xs e (k0_pay20 d) (k0_pay22 d) (k0_pay23 d) (constant S128x2048 .f32 0x00000000#32) (ix2 l j) = xs (ix2 l j) * d (ix2 l ⟨j.val / 64, by omega⟩) := by
  rw [← xd_at e he xs d l j hf]
  unfold k0_pay27
  pointwise

/-- The same, decayed to the chunk's end. -/
theorem xdec_at (xs : FVec Ideal S128x2048 .f32) (v d : FVec Ideal S128x128 .f32) (last : FVec Ideal S1x128 .f32) (l : Fin 128) (j : Fin 2048)
    (hf : IsFin (d (ix2 l ⟨j.val / 64, by omega⟩)))
    (hv : IsFin (Ideal.exp (last (ix2 0 ⟨j.val / 64, by omega⟩) - v (ix2 l ⟨j.val / 64, by omega⟩)))) :
    k0_pay28 xs v last e (k0_pay20 d) (k0_pay22 d) (k0_pay23 d) (constant S128x2048 .f32 0x00000000#32) (ix2 l j)
      = (xs (ix2 l j) * d (ix2 l ⟨j.val / 64, by omega⟩)) * Ideal.exp (last (ix2 0 ⟨j.val / 64, by omega⟩) - v (ix2 l ⟨j.val / 64, by omega⟩)) := by
  rw [← xd_at e he xs d l j hf]
  unfold k0_pay28
  pointwise
  exact congrArg (_ * ·) (expand_at (fun k => Ideal.exp (last (ix2 0 k) - v (ix2 l k))) e j he hv)
end

/-- The running sum at the chunk's last row. -/
theorem last_at (i61 : IVec S128x128 32) (v67 : FVec Ideal S128x128 .f32) (v69 : IVec S128x128 1) (v70 v71 : FVec Ideal S128x128 .f32) (h : Fin 128) :
    k0_pay18 i61 v67 v69 v70 v71 (ix2 0 h) = k0_pay17 i61 v67 v69 v70 v71 (ix2 127 h) := by
  unfold k0_pay18
  pointwise

/-- The rows' normalization. -/
theorem norm_at (u : FVec Ideal S128x2048 .f32) (w : Vec Ideal S1x2048 .f32) (z : Fin 1) (l : Fin 128) (j : Fin 2048) :
    k0_pay1 u (k0_pay119 w) (mulf u u) (ix3 z l j) = SsdSpec.normed (fun i => u (ix2 l i)) (fun j => w (ix2 0 j)) j := by
  unfold SsdSpec.normed
  rw [← mean_2048]
  pointwise [k0_pay1, k0_pay119]

/-- The eight groups' rows side by side, the skip added, gated. -/
def fin (y : Fin 8 → FVec Ideal S128x256 .f32) (d : Vec Ideal S1x2048 .f32) (xs : FVec Ideal S128x2048 .f32) (z : Vec Ideal S1x128x2048 .f32) :
    FVec Ideal S128x2048 .f32 :=
  mulf (addf (concatenate S128x2048 1 [⟨S128x256, y 0⟩, ⟨S128x256, y 1⟩, ⟨S128x256, y 2⟩, ⟨S128x256, y 3⟩, ⟨S128x256, y 4⟩, ⟨S128x256, y 5⟩,
      ⟨S128x256, y 6⟩, ⟨S128x256, y 7⟩] concatenates_S128x256_S128x256_S128x256_S128x256_S128x256_S128x256_S128x256_S128x256_S128x2048_d1)
    (mulf (broadcastTo S128x2048 (shapeCast S1x2048 d shapeCasts_S1x2048_S1x2048) broadcasts_S1x2048_S128x2048) xs))
    (mulf (shapeCast S128x2048 z shapeCasts_S1x128x2048_S128x2048) (logistic (shapeCast S128x2048 z shapeCasts_S1x128x2048_S128x2048)))

/-- The stored rows: skip, gate, and the scaling by the reciprocal root mean square. -/
theorem fin_at (y : Fin 8 → FVec Ideal S128x256 .f32) (d : Vec Ideal S1x2048 .f32) (xs : FVec Ideal S128x2048 .f32) (z : Vec Ideal S1x128x2048 .f32)
    (l : Fin 128) (j : Fin 2048) :
    fin y d xs z (ix2 l j) = (y ⟨j.val / 256, by omega⟩ (ix2 l ⟨j.val % 256, by omega⟩) + d (ix2 0 j) * xs (ix2 l j))
      * (z (ix3 0 l j) * Ideal.logistic (z (ix3 0 l j))) := by
  pointwise [fin]
  refine congrArg (fun t => (t + _) * _) ?_
  have k : ∀ (a a' : Fin 8) (b b' : Fin 256), a.val = a'.val → b.val = b'.val → y a (ix2 l b) = y a' (ix2 l b') := by
    intro a a' b b' ha hb
    rw [Fin.ext ha, Fin.ext hb]
  split_ifs <;> exact k _ _ _ _ (by dsimp only [Fin.isValue, Fin.val_zero, Fin.val_one, Fin.val_two]; first | omega | (simp only [Fin.coe_ofNat_eq_mod]; omega)) (by dsimp only; omega)
end Cert.SsdEarly
end
-- ==== Proof.SsdPoint.lean ====
module

public import proofs.«01_k».proof.Proof.SsdChunk
public import proofs.«01_k».proof.Proof.SsdEarly
public import proofs.«01_k».proof.Proof.Gen.KernelIdeal.Value
import Idealize.ShloMosaic.Lib.Pipeline.ReadBack
import Idealize.ShloMosaic.Lib.WritesUnit

@[expose] public section

set_option maxRecDepth 65536
set_option maxHeartbeats 4000000

noncomputable section

open Idealize.ShloMosaic Idealize.ShloMosaic.TcCoe Idealize.SL.Sem

/-! What a grid point of the state-space kernel leaves: its stored block, the carried rows and the carried state. -/
namespace Cert.SsdPoint

open Cert.KernelIdeal Cert.KernelIdeal.Gen

section
variable (x0 : Vec Ideal S1x128x2048 .f32) (x1 : Vec Ideal S1x128x4096 .f32) (x2 : Vec Ideal S1x128x128 .f32) (x3 : Vec Ideal S4x4096 .f32)
  (x4 : Vec Ideal S1x4096 .f32) (x5 x6 : Vec Ideal S1x128 .f32) (x7 x8 : Vec Ideal S1x2048 .f32) (x9 : Vec Ideal S128x2048 .bf16)
  (e0 e1 e2 : Vec Ideal S128x4096 .f32) (v : FVec Ideal S128x4096 .f32) (prev : Fin 8 → Vec Ideal S1x128x256 .f32)

/-- The convolved rows, over the shifted rows before. -/
def cv : FVec Ideal S128x4096 .f32 :=
  k0_pay6 x4 (View.ld x3 (Rect.unit ![0, 0] S1x4096.size inb_S4x4096_S1x4096_0_0)) e0
    (View.ld x3 (Rect.unit ![1, 0] S1x4096.size inb_S4x4096_S1x4096_1_0)) e1
    (View.ld x3 (Rect.unit ![2, 0] S1x4096.size inb_S4x4096_S1x4096_2_0)) e2
    (View.ld x3 (Rect.unit ![3, 0] S1x4096.size inb_S4x4096_S1x4096_3_0)) (k0_pay5 x1)

/-- The running sums, the decays, the steps' columns. -/
def ac : FVec Ideal S128x128 .f32 := SsdEarly.ac x2 x5 x6
/-- A row's decay since the chunk's start, by column. -/
def ea : FVec Ideal S128x2048 .f32 := k0_pay24 (ac x2 x5 x6) (k0_pay19 x9)
/-- The columns of `x` times the step. -/
def xd : FVec Ideal S128x2048 .bf16 :=
  k0_pay27 (k0_pay9 v) (k0_pay19 x9) (k0_pay20 (k0_pay12 x2 x5)) (k0_pay22 (k0_pay12 x2 x5)) (k0_pay23 (k0_pay12 x2 x5)) (constant S128x2048 .f32 0x00000000#32)
/-- The running sum at the last row. -/
def last : FVec Ideal S1x128 .f32 :=
  k0_pay18 (iota .tc S128x128 32 [0] iota_S128x128_d0_w32) (k0_pay13 x2 x5 x6) k0_pay14 (k0_pay15 x2 x5 x6) k0_pay16
/-- The same columns decayed to the chunk's end. -/
def xdec : FVec Ideal S128x2048 .bf16 :=
  k0_pay28 (k0_pay9 v) (ac x2 x5 x6) (last x2 x5 x6) (k0_pay19 x9) (k0_pay20 (k0_pay12 x2 x5)) (k0_pay22 (k0_pay12 x2 x5)) (k0_pay23 (k0_pay12 x2 x5))
    (constant S128x2048 .f32 0x00000000#32)

/-- A group's rows and its state after the chunk. -/
def y (g : Fin 8) : FVec Ideal S128x256 .f32 :=
  SsdChunk.gY (ac x2 x5 x6) (k0_pay25 (ac x2 x5 x6)) (xd x2 x5 x9 v) k0_pay29 (iota .tc S128x128 32 [1] iota_S128x128_d1_w32)
    (k0_pay10 v) (k0_pay11 v) (ea x2 x5 x6 x9) (prev g) g
/-- A group's state after the chunk. -/
def s (g : Fin 8) : FVec Ideal S1x128x256 .f32 :=
  SsdChunk.gS (xdec x2 x5 x6 x9 v) (k0_pay10 v) (ea x2 x5 x6 x9) (prev g) g

/-- The gated rows, and the stored block. -/
def u : FVec Ideal S128x2048 .f32 := SsdEarly.fin (y x2 x5 x6 x9 v prev) x7 (k0_pay9 v) x0
/-- The stored rows. -/
def out : FVec Ideal S1x128x2048 .bf16 :=
  k0_pay1 (u x0 x2 x5 x6 x7 x9 v prev) (k0_pay119 x8) (mulf (u x0 x2 x5 x6 x7 x9 v prev) (u x0 x2 x5 x6 x7 x9 v prev))
end

/-- A group's part of the state lies in it. -/
theorem inbSlab (g : Fin 8) : ∀ a, (![g.val, 0, 0] : Fin 3 → ℕ) a + S1x128x256.size a ≤ S8x128x256.size a := fun a => by
  fin_cases a <;> simp <;> omega

/-- A group's slab of the state, as a rectangle. -/
def slabR (g : Fin 8) : Rect S8x128x256 := Rect.unit ![g.val, 0, 0] S1x128x256.size (inbSlab g)

/-- A group's slab of the state. -/
def slab (X : Vec Ideal S8x128x256 .f32) (g : Fin 8) : Vec Ideal S1x128x256 .f32 :=
  View.ld X (slabR g)

/-- The carried rows with the point's rows stored after them. -/
def extB (X : Vec Ideal S136x4096 .f32) (x1 : Vec Ideal S1x128x4096 .f32) : Vec Ideal S136x4096 .f32 :=
  View.read (Elt Ideal) (View.whole cc0_scratch0) ((View.whole cc0_scratch0).writes (Elt Ideal) ((Memref.isWhole_whole cc0_scratch0).unread X)
    [⟨Rect.unit ![8, 0] S128x4096.size inb_S136x4096_S128x4096_8_0, k0_pay5 x1⟩])
/-- The rows before and of a sequence's first point: zeros before. -/
def extA (x1 : Vec Ideal S1x128x4096 .f32) : Vec Ideal S136x4096 .f32 :=
  View.canon [⟨Rect.unit ![8, 0] S128x4096.size inb_S136x4096_S128x4096_8_0, k0_pay5 x1⟩,
    ⟨Rect.unit ![0, 0] S8x4096.size inb_S136x4096_S8x4096_0_0, k0_pay2 (F := Ideal)⟩]

/-- The convolved rows over such rows. -/
def cvx (X : Vec Ideal S136x4096 .f32) (x1 : Vec Ideal S1x128x4096 .f32) (x3 : Vec Ideal S4x4096 .f32) (x4 : Vec Ideal S1x4096 .f32) : FVec Ideal S128x4096 .f32 :=
  cv x1 x3 x4 (View.ld X (Rect.unit ![5, 0] S128x4096.size inb_S136x4096_S128x4096_5_0))
    (View.ld X (Rect.unit ![6, 0] S128x4096.size inb_S136x4096_S128x4096_6_0))
    (View.ld X (Rect.unit ![7, 0] S128x4096.size inb_S136x4096_S128x4096_7_0))

section
variable (x0 : Vec Ideal S1x128x2048 .f32) (x1 : Vec Ideal S1x128x4096 .f32) (x2 : Vec Ideal S1x128x128 .f32) (x3 : Vec Ideal S4x4096 .f32)
  (x4 : Vec Ideal S1x4096 .f32) (x5 x6 : Vec Ideal S1x128 .f32) (x7 x8 : Vec Ideal S1x2048 .f32) (x9 : Vec Ideal S128x2048 .bf16)
  (xs0 : Vec Ideal S136x4096 .f32) (xs1 : Vec Ideal S8x128x256 .f32)

/-- What a later point stores. -/
theorem outB (c : Dev nD) (t : Fin cfg0.N) (h : ¬cond0_0 (grid0.coords t)) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9 xs0 xs1
      = out x0 x2 x5 x6 x7 x8 x9 (cvx (extB xs0 x1) x1 x3 x4) (slab xs1) := by
  frame_open
  simp (disch := decide) only [↓ View.readCov_skip, ↓ View.readCov_cons_toLoadRect, ↓ View.readCov_fill]
  frame_out
  simp only [read_unread_whole]
  unfold out u
  refine congrArg₂ (fun a b => k0_pay1 a (k0_pay119 x8) b) ?_ ?_
  · rfl
  · rfl

/-- What a sequence's first point stores. -/
theorem outA (c : Dev nD) (t : Fin cfg0.N) (h : cond0_0 (grid0.coords t)) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9
      = out x0 x2 x5 x6 x7 x8 x9 (cvx (extA x1) x1 x3 x4) (slab (k0_pay3 (F := Ideal))) := by
  frame_open
  simp (disch := decide) only [↓ View.readCov_skip, ↓ View.readCov_cons_toLoadRect, ↓ View.readCov_fill]
  frame_out
  simp only [View.readCov_eq_canon']
  unfold out u
  refine congrArg₂ (fun a b => k0_pay1 a (k0_pay119 x8) b) ?_ ?_
  · rfl
  · rfl

/-- A slab's index in the state. -/
theorem slab_emb (g : Fin 8) (z : Fin 1) (n : Fin 128) (q : Fin 256) : (slabR g).emb (ix3 z n q : S1x128x256.Idx) = (ix3 g n q : S8x128x256.Idx) := by
  refine (eq_ix3 _).trans ?_
  have h0 : (slabR g).emb (ix3 z n q : S1x128x256.Idx) 0 = g := Fin.ext ((ValueKit.rect_emb_unit_val _ _ _ _ _).trans (show g.val + z.val = g.val by omega))
  have h1 : (slabR g).emb (ix3 z n q : S1x128x256.Idx) 1 = n := Fin.ext ((ValueKit.rect_emb_unit_val _ _ _ _ _).trans (Nat.zero_add _))
  have h2 : (slabR g).emb (ix3 z n q : S1x128x256.Idx) 2 = q := Fin.ext ((ValueKit.rect_emb_unit_val _ _ _ _ _).trans (Nat.zero_add _))
  rw [h0, h1, h2]

/-- Slabs that tile the state. -/
def whole (S : Fin 8 → Vec Ideal S1x128x256 .f32) : Vec Ideal S8x128x256 .f32 := fun i => S (i 0) (ix3 0 (i 1) (i 2))

/-- A part of the whole, at an index. -/
theorem slabPiece' (S : Fin 8 → Vec Ideal S1x128x256 .f32) (g : Fin 8) (z : Fin 1) (n : Fin 128) (q : Fin 256) :
    S g (ix3 z n q) = whole S ((slabR g).emb (ix3 z n q : S1x128x256.Idx)) := by
  rw [slab_emb, Subsingleton.elim z 0]
  rfl

/-- A part of the whole. -/
theorem slabPiece (S : Fin 8 → Vec Ideal S1x128x256 .f32) (g : Fin 8) (x : S1x128x256.Idx) : S g x = whole S ((slabR g).emb x) := by
  have h := slabPiece' S g (x 0) (x 1) (x 2)
  have hx : (ix3 (x 0) (x 1) (x 2) : S1x128x256.Idx) = x := (eq_ix3 x).symm
  rwa [hx] at h

/-- An entry lies in its group's part. -/
theorem slabMem (g : Fin 8) (n : Fin 128) (q : Fin 256) : (ix3 g n q : S8x128x256.Idx) ∈ (slabR g).set := by
  rw [← slab_emb g 0 n q]
  exact Rect.mem_set_unit.mpr fun a => ⟨(ValueKit.rect_emb_unit_val _ _ _ _ _).symm ▸ Nat.le_add_right _ _,
    (ValueKit.rect_emb_unit_val _ _ _ _ _).symm ▸ Nat.add_lt_add_left ((ix3 0 n q : S1x128x256.Idx) a).isLt _⟩

/-- Eight slabs stored over anything. -/
theorem slabs_at (S : Fin 8 → Vec Ideal S1x128x256 .f32) (L : List (View.Piece (Elt Ideal) S8x128x256 .f32)) (g : Fin 8) (n : Fin 128) (q : Fin 256) :
    View.canon (⟨slabR 7, S 7⟩ :: ⟨slabR 6, S 6⟩ :: ⟨slabR 5, S 5⟩ :: ⟨slabR 4, S 4⟩ :: ⟨slabR 3, S 3⟩ :: ⟨slabR 2, S 2⟩ :: ⟨slabR 1, S 1⟩
      :: ⟨slabR 0, S 0⟩ :: L) (ix3 g n q) = S g (ix3 0 n q) :=
  View.canon_append_of_piecesOf (whole S) L [⟨slabR 7, S 7⟩, ⟨slabR 6, S 6⟩, ⟨slabR 5, S 5⟩, ⟨slabR 4, S 4⟩, ⟨slabR 3, S 3⟩, ⟨slabR 2, S 2⟩,
      ⟨slabR 1, S 1⟩, ⟨slabR 0, S 0⟩]
    ⟨slabPiece S 7, slabPiece S 6, slabPiece S 5, slabPiece S 4, slabPiece S 3, slabPiece S 2, slabPiece S 1, slabPiece S 0, trivial⟩ (ix3 g n q) (by
      refine ⟨⟨slabR g, S g⟩, ?_, slabMem g n q⟩
      fin_cases g <;> simp)

end

end Cert.SsdPoint
end
-- ==== Proof.SsdStep.lean ====
module

public import proofs.«01_k».proof.Proof.SsdPoint

@[expose] public section

set_option maxRecDepth 16384

noncomputable section

open Idealize.ShloMosaic Idealize.ShloMosaic.TcCoe Idealize.SL.Sem

/-! One chunk of 128 rows from row `c`: where the point's blocks hold the rows' numbers and the carried state is the
specification's before row `c`, the stored rows and the state left are the specification's. -/
namespace Cert.SsdStep

open Cert.KernelIdeal Cert.KernelIdeal.Gen Cert.SsdMath

variable (p : ℕ → Fin 9216 → EReal) (w : Fin 4 → Fin 4096 → EReal) (cb : Fin 4096 → EReal) (db al ds : Fin 32 → EReal)
  (nw : Fin 2048 → EReal) (c : ℕ)
variable (x0 : Vec Ideal S1x128x2048 .f32) (x2 : Vec Ideal S1x128x128 .f32) (x5 x6 : Vec Ideal S1x128 .f32) (x7 x8 : Vec Ideal S1x2048 .f32)
  (x9 : Vec Ideal S128x2048 .bf16) (v : FVec Ideal S128x4096 .f32) (prev : Fin 8 → Vec Ideal S1x128x256 .f32)

/-- The column of a group's column. -/
def col (g : Fin 8) (q : Fin 256) : Fin 2048 := ⟨256 * g.val + q.val, by omega⟩

/-- The group of a group's column. -/
theorem grp_col (g : Fin 8) (q : Fin 256) : SsdSpec.grp (col g q) = g := Fin.ext (by unfold SsdSpec.grp col; dsimp only; omega)

/-- What a chunk's blocks hold. -/
structure Holds : Prop where
  z_at : ∀ (l : Fin 128) (j : Fin 2048), x0 (ix3 0 l j) = p (c + l.val) ⟨2048 + j.val, by omega⟩
  dt_at : ∀ (l : Fin 128) (h : Fin 32), x2 (ix3 0 l ⟨h.val, by omega⟩) = p (c + l.val) ⟨640 + h.val, by omega⟩
  db_at : ∀ h : Fin 32, x5 (ix2 0 ⟨h.val, by omega⟩) = db h
  al_at : ∀ h : Fin 32, x6 (ix2 0 ⟨h.val, by omega⟩) = al h
  ds_at : ∀ j : Fin 2048, x7 (ix2 0 j) = ds (SsdSpec.head j)
  nw_at : ∀ j : Fin 2048, x8 (ix2 0 j) = nw j
  e_at : ∀ (k : Fin 128) (j : Fin 2048), x9 (ix2 k j) = if k.val = j.val / 64 then 1 else 0
  conv_at : ∀ (l : Fin 128) (j : Fin 4096), v (ix2 l j) = SsdSpec.conv p w cb (c + l.val) j
  state_at : ∀ (g : Fin 8) (n : Fin 128) (q : Fin 256), prev g (ix3 0 n q) = SsdSpec.state p w cb db al (col g q) n c

variable {p w cb db al ds nw c x0 x2 x5 x6 x7 x8 x9 v prev}
variable (H : Holds p w cb db al ds nw c x0 x2 x5 x6 x7 x8 x9 v prev) (f : SsdSpec.Finite p w cb db al)

/-- The logarithm of a row's decay as a real number, and the other factors. -/
def a (p : ℕ → Fin 9216 → EReal) (db al : Fin 32 → EReal) (h : Fin 32) (t : ℕ) : ℝ := (SsdSpec.la p db al h t).toReal
/-- A row's column times the step. -/
def X (p : ℕ → Fin 9216 → EReal) (w : Fin 4 → Fin 4096 → EReal) (cb : Fin 4096 → EReal) (db : Fin 32 → EReal) (j : Fin 2048) (t : ℕ) : ℝ :=
  (SsdSpec.xd p w cb db j t).toReal
/-- A row's `B`. -/
def B (p : ℕ → Fin 9216 → EReal) (w : Fin 4 → Fin 4096 → EReal) (cb : Fin 4096 → EReal) (g : Fin 8) (t : ℕ) (n : Fin 128) : ℝ := (SsdSpec.bm p w cb g n t).toReal
/-- A row's `C`. -/
def C (p : ℕ → Fin 9216 → EReal) (w : Fin 4 → Fin 4096 → EReal) (cb : Fin 4096 → EReal) (g : Fin 8) (t : ℕ) (n : Fin 128) : ℝ := (SsdSpec.cm p w cb g n t).toReal

/-- The 0/1 matrix as it is read. -/
theorem pay19_at (k : Fin 128) (j : Fin 2048) : k0_pay19 x9 (ix2 k j) = x9 (ix2 k j) := by
  pointwise [k0_pay19]

include H

/-- The step of a row. -/
theorem dt_at (l : Fin 128) (h : Fin 32) : k0_pay12 x2 x5 (ix2 l ⟨h.val, by omega⟩) = SsdSpec.dt p db (c + l.val) h := by
  rw [SsdEarly.dt_at, H.dt_at, H.db_at]
  rfl

/-- The activated columns of a row. -/
theorem xs_at (l : Fin 128) (j : Fin 2048) : k0_pay9 v (ix2 l j) = SsdSpec.act p w cb (c + l.val) ⟨j.val, by omega⟩ := by
  rw [SsdEarly.xs_at, H.conv_at]
  rfl

include f

/-- The group's `B` of a row. -/
theorem bm_at (g : Fin 8) (l n : Fin 128) : k0_pay10 v (ix2 l ⟨128 * g.val + n.val, by omega⟩) = ((B p w cb g (c + l.val) n : ℝ) : EReal) := by
  have e : (⟨2048 + (128 * g.val + n.val), by omega⟩ : Fin 4096) = ⟨2048 + (g.val * 128 + n.val), by omega⟩ := Fin.ext (by dsimp only; omega)
  rw [SsdEarly.bm_at, e, H.conv_at]
  exact (f.bm g n (c + l.val)).eq

/-- The group's `C` of a row. -/
theorem cm_at (g : Fin 8) (l n : Fin 128) : k0_pay11 v (ix2 l ⟨128 * g.val + n.val, by omega⟩) = ((C p w cb g (c + l.val) n : ℝ) : EReal) := by
  have e : (⟨3072 + (128 * g.val + n.val), by omega⟩ : Fin 4096) = ⟨3072 + (g.val * 128 + n.val), by omega⟩ := Fin.ext (by dsimp only; omega)
  rw [SsdEarly.cm_at, e, H.conv_at]
  exact (f.cm g n (c + l.val)).eq

/-- The running sums of the decays' logarithms. -/
theorem ac_at (l : Fin 128) (h : Fin 32) : SsdPoint.ac x2 x5 x6 (ix2 l ⟨h.val, by omega⟩) = ((run (a p db al h) c (l.val + 1) : ℝ) : EReal) := by
  unfold SsdPoint.ac run
  rw [coe_sum]
  refine SsdEarly.ac_at x2 x5 x6 l ⟨h.val, by omega⟩ (fun i => ((a p db al h (c + i) : ℝ) : EReal)) fun s => ?_
  rw [SsdEarly.la_at, dt_at H, H.al_at]
  exact (f.la h (c + s.val)).eq

/-- The step is finite. -/
theorem dt_fin (l : Fin 128) (h : Fin 32) : IsFin (k0_pay12 x2 x5 (ix2 l ⟨h.val, by omega⟩)) := by
  rw [dt_at H]
  exact f.dt _ _

/-- A row's decay since the chunk's start. -/
theorem ea_at (l : Fin 128) (j : Fin 2048) :
    SsdPoint.ea x2 x5 x6 x9 (ix2 l j) = ((Real.exp (run (a p db al (SsdSpec.head j)) c (l.val + 1)) : ℝ) : EReal) := by
  have k := ac_at H f l (SsdSpec.head j)
  unfold SsdPoint.ea
  refine (SsdEarly.ea_at _ (fun k j => (pay19_at k j).trans (H.e_at k j)) _ l j (by rw [show (⟨j.val / 64, by omega⟩ : Fin 128) = ⟨(SsdSpec.head j).val, by omega⟩ from rfl, k]; exact (IsFin.coe _).exp)).trans ?_
  rw [show (⟨j.val / 64, by omega⟩ : Fin 128) = ⟨(SsdSpec.head j).val, by omega⟩ from rfl, k, Ideal.exp_coe]

/-- A row's columns times the step. -/
theorem xd_at (l : Fin 128) (j : Fin 2048) : SsdPoint.xd x2 x5 x9 v (ix2 l j) = ((X p w cb db j (c + l.val) : ℝ) : EReal) := by
  unfold SsdPoint.xd
  refine (SsdEarly.xdb_at _ (fun k j => (pay19_at k j).trans (H.e_at k j)) _ _ l j (dt_fin H f l (SsdSpec.head j))).trans ?_
  rw [show (⟨j.val / 64, by omega⟩ : Fin 128) = ⟨(SsdSpec.head j).val, by omega⟩ from rfl, dt_at H, xs_at H]
  exact (f.xd j (c + l.val)).eq

/-- The same, decayed to the chunk's end. -/
theorem xdec_at (l : Fin 128) (j : Fin 2048) : SsdPoint.xdec x2 x5 x6 x9 v (ix2 l j)
    = ((X p w cb db j (c + l.val) * Real.exp (run (a p db al (SsdSpec.head j)) c 128 - run (a p db al (SsdSpec.head j)) c (l.val + 1)) : ℝ) : EReal) := by
  have k1 := ac_at H f 127 (SsdSpec.head j)
  have k2 := ac_at H f l (SsdSpec.head j)
  have k3 : SsdPoint.last x2 x5 x6 (ix2 0 ⟨(SsdSpec.head j).val, by omega⟩) = ((run (a p db al (SsdSpec.head j)) c 128 : ℝ) : EReal) :=
    (SsdEarly.last_at _ _ _ _ _ _).trans k1
  have k4 : SsdPoint.last x2 x5 x6 (ix2 0 ⟨j.val / 64, by omega⟩) - SsdPoint.ac x2 x5 x6 (ix2 l ⟨j.val / 64, by omega⟩)
      = ((run (a p db al (SsdSpec.head j)) c 128 - run (a p db al (SsdSpec.head j)) c (l.val + 1) : ℝ) : EReal) := by
    rw [EReal.coe_sub, ← k3, ← k2]
    rfl
  unfold SsdPoint.xdec
  refine (SsdEarly.xdec_at _ (fun k j => (pay19_at k j).trans (H.e_at k j)) _ _ _ _ l j (dt_fin H f l (SsdSpec.head j)) (by rw [k4]; exact (IsFin.coe _).exp)).trans ?_
  rw [k4, show (⟨j.val / 64, by omega⟩ : Fin 128) = ⟨(SsdSpec.head j).val, by omega⟩ from rfl, dt_at H, xs_at H, EReal.coe_mul, Ideal.exp_coe]
  exact congrArg (· * _) (f.xd j (c + l.val)).eq

/-- The carried state as a real number. -/
theorem prev_at (g : Fin 8) (n : Fin 128) (q : Fin 256) : prev g (ix3 0 n q)
    = ((st (a p db al (SsdSpec.head (col g q))) (fun t => X p w cb db (col g q) t * B p w cb g t n) c : ℝ) : EReal) := by
  rw [H.state_at, f.state, grp_col]
  rfl

/-- The state the chunk leaves. -/
theorem state_at (g : Fin 8) (n : Fin 128) (q : Fin 256) :
    SsdPoint.s x2 x5 x6 x9 v prev g (ix3 0 n q) = SsdSpec.state p w cb db al (col g q) n (c + 128) := by
  unfold SsdPoint.s
  rw [SsdChunk.gS_at, prev_at H f, f.state, grp_col]
  have k := ea_at H f 127 (col g q)
  have k' : ∀ s : Fin 128, _ := fun s => xdec_at H f s (col g q)
  unfold col at k k' ⊢
  rw [k, ← EReal.coe_mul]
  simp only [bm_at H f, k', ← EReal.coe_mul, ← coe_sum, ← EReal.coe_add]
  refine congrArg _ (Eq.trans ?_ (chunk_state (a p db al (SsdSpec.head (col g q))) (fun t => X p w cb db (col g q) t * B p w cb g t n) c))
  refine congrArg (_ + ·) (Finset.sum_congr rfl fun s _ => ?_)
  unfold col
  ring

/-- A row of the scan, before the skip. -/
theorem y_at (g : Fin 8) (l : Fin 128) (q : Fin 256) :
    SsdPoint.y x2 x5 x6 x9 v prev g (ix2 l q)
      = ∑ n : Fin 128, SsdSpec.state p w cb db al (col g q) n (c + l.val + 1) * SsdSpec.cm p w cb g n (c + l.val) := by
  unfold SsdPoint.y
  rw [SsdChunk.gY_at (hc := SsdEarly.causal_at) (hT := fun h s => SsdEarly.acT_at _ h s) (hl := SsdEarly.lane_at)]
  have k := ea_at H f l (col g q)
  have k' : ∀ s : Fin 128, _ := fun s => xd_at H f s (col g q)
  have hh : (⟨4 * g.val + q.val / 64, by omega⟩ : Fin 128) = ⟨(SsdSpec.head (col g q)).val, by omega⟩ :=
    Fin.ext (by unfold SsdSpec.head col; dsimp only; omega)
  have m : ∀ s : Fin 128, (if s.val ≤ l.val then Ideal.exp (((run (a p db al (SsdSpec.head (col g q))) c (l.val + 1) : ℝ) : EReal)
      - ((run (a p db al (SsdSpec.head (col g q))) c (s.val + 1) : ℝ) : EReal)) else 0)
      = ((if s.val ≤ l.val then Real.exp (run (a p db al (SsdSpec.head (col g q))) c (l.val + 1) - run (a p db al (SsdSpec.head (col g q))) c (s.val + 1)) else 0 : ℝ) : EReal) := by
    intro s
    split
    · rw [← EReal.coe_sub, Ideal.exp_coe]
    · rfl
  have r : ∀ n, SsdSpec.state p w cb db al (col g q) n (c + l.val + 1) * SsdSpec.cm p w cb g n (c + l.val)
      = ((st (a p db al (SsdSpec.head (col g q))) (fun t => X p w cb db (col g q) t * B p w cb g t n) (c + l.val + 1) * C p w cb g (c + l.val) n : ℝ) : EReal) := by
    intro n
    rw [f.state, grp_col, (f.cm g n (c + l.val)).eq, EReal.coe_mul]
    rfl
  simp only [r, hh, ac_at H f, m, bm_at H f, cm_at H f, prev_at H f]
  rw [show (⟨256 * g.val + q.val, by omega⟩ : Fin 2048) = col g q from rfl]
  simp only [k, k', ← EReal.coe_mul, ← coe_sum, ← EReal.coe_add]
  exact congrArg _ (chunk_row (a p db al (SsdSpec.head (col g q))) (X p w cb db (col g q)) (B p w cb g) (C p w cb g (c + l.val)) c l)

/-- The gated rows. -/
theorem u_at (l : Fin 128) (j : Fin 2048) : SsdPoint.u x0 x2 x5 x6 x7 x9 v prev (ix2 l j) = SsdSpec.gated p w cb db al ds (c + l.val) j := by
  have e : col ⟨j.val / 256, by omega⟩ ⟨j.val % 256, by omega⟩ = j := Fin.ext (by unfold col; dsimp only; omega)
  unfold SsdPoint.u
  rw [SsdEarly.fin_at, y_at H f, xs_at H, H.ds_at, H.z_at, e]
  rfl

/-- The stored rows. -/
theorem out_at (z : Fin 1) (l : Fin 128) (j : Fin 2048) : SsdPoint.out x0 x2 x5 x6 x7 x8 x9 v prev (ix3 z l j) = SsdSpec.out p w cb db al ds nw (c + l.val) j := by
  unfold SsdPoint.out SsdSpec.out
  rw [SsdEarly.norm_at]
  simp only [u_at H f, H.nw_at]

end Cert.SsdStep
end
-- ==== Proof.SsdCarry.lean ====
module

public import proofs.«01_k».proof.Proof.SsdPoint
import Idealize.ShloMosaic.Lib.Pipeline.ReadBack
import Idealize.ShloMosaic.Lib.WritesUnit

@[expose] public section

set_option maxRecDepth 65536
set_option maxHeartbeats 4000000

noncomputable section

open Idealize.ShloMosaic Idealize.ShloMosaic.TcCoe Idealize.SL.Sem

/-! The rows and the state a grid point of the state-space kernel carries to the next. -/
namespace Cert.SsdPoint

open Cert.KernelIdeal Cert.KernelIdeal.Gen

section
variable (x0 : Vec Ideal S1x128x2048 .f32) (x1 : Vec Ideal S1x128x4096 .f32) (x2 : Vec Ideal S1x128x128 .f32) (x3 : Vec Ideal S4x4096 .f32)
  (x4 : Vec Ideal S1x4096 .f32) (x5 x6 : Vec Ideal S1x128 .f32) (x7 x8 : Vec Ideal S1x2048 .f32) (x9 : Vec Ideal S128x2048 .bf16)
  (xs0 : Vec Ideal S136x4096 .f32) (xs1 : Vec Ideal S8x128x256 .f32)

/-- Last rows stored over anything. -/
theorem tail_at (L : List (View.Piece (Elt Ideal) S136x4096 .f32)) (x1 : Vec Ideal S1x128x4096 .f32) (r : Fin 8) (j : Fin 4096) :
    View.canon (⟨Rect.unit ![0, 0] ![8, 4096] inb_S136x4096_S8x4096_0_0, k0_pay7 (k0_pay4 x1)⟩ :: L) (ix2 ⟨r.val, by omega⟩ j)
      = x1 (ix3 0 ⟨120 + r.val, by omega⟩ j) := by
  have e : (Rect.unit (s := S136x4096) ![0, 0] ![8, 4096] inb_S136x4096_S8x4096_0_0).emb (ix2 r j) = (ix2 ⟨r.val, by omega⟩ j : S136x4096.Idx) := by
    refine (eq_ix2 _).trans (congrArg₂ ix2 (Fin.ext ?_) (Fin.ext ?_)) <;> refine (ValueKit.rect_emb_unit_val _ _ _ _ _).trans ?_
    · exact Nat.zero_add _
    · exact Nat.zero_add _
  rw [← e]
  refine (View.canon_cons_emb (Rect.unit (s := S136x4096) ![0, 0] ![8, 4096] inb_S136x4096_S8x4096_0_0) _ _ _).trans ?_
  pointwise [k0_pay7, k0_pay4]

/-- The carried rows a point leaves: its last rows. -/
theorem tailB (c : Dev nD) (t : Fin cfg0.N) (h : ¬cond0_0 (grid0.coords t)) (r : Fin 8) (j : Fin 4096) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9 xs0 xs1
      (ix2 ⟨r.val, by omega⟩ j) = x1 (ix3 0 ⟨120 + r.val, by omega⟩ j) := by
  frame_open
  simp (disch := decide) only [↓ View.readCov_skip, ↓ View.readCov_cons_toLoadRect, ↓ View.readCov_fill]
  frame_out
  exact tail_at _ _ r j

/-- The rows kept after a sequence's first point. -/
theorem tailA (c : Dev nD) (t : Fin cfg0.N) (h : cond0_0 (grid0.coords t)) (r : Fin 8) (j : Fin 4096) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9
      (ix2 ⟨r.val, by omega⟩ j) = x1 (ix3 0 ⟨120 + r.val, by omega⟩ j) := by
  frame_open
  simp (disch := decide) only [↓ View.readCov_skip, ↓ View.readCov_cons_toLoadRect, ↓ View.readCov_fill]
  frame_out
  exact tail_at _ _ r j

/-- The carried state a point leaves. -/
theorem stateB (c : Dev nD) (t : Fin cfg0.N) (h : ¬cond0_0 (grid0.coords t)) (g : Fin 8) (n : Fin 128) (q : Fin 256) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9 xs0 xs1 (ix3 g n q)
      = s x2 x5 x6 x9 (cvx (extB xs0 x1) x1 x3 x4) (slab xs1) g (ix3 0 n q) := by
  frame_open
  simp (disch := decide) only [↓ View.readCov_skip, ↓ View.readCov_cons_toLoadRect, ↓ View.readCov_fill]
  frame_out
  simp only [read_unread_whole]
  exact slabs_at (s x2 x5 x6 x9 (cvx (extB xs0 x1) x1 x3 x4) (slab xs1)) [] g n q

/-- The carried state a sequence's first point leaves. -/
theorem stateA (c : Dev nD) (t : Fin cfg0.N) (h : cond0_0 (grid0.coords t)) (g : Fin 8) (n : Fin 128) (q : Fin 256) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h x0 x1 x2 x3 x4 x5 x6 x7 x8 x9 (ix3 g n q)
      = s x2 x5 x6 x9 (cvx (extA x1) x1 x3 x4) (slab (k0_pay3 (F := Ideal))) g (ix3 0 n q) := by
  frame_open
  simp (disch := decide) only [↓ View.readCov_skip, ↓ View.readCov_cons_toLoadRect, ↓ View.readCov_fill]
  frame_out
  simp only [View.readCov_eq_canon']
  exact slabs_at (s x2 x5 x6 x9 (cvx (extA x1) x1 x3 x4) (slab (k0_pay3 (F := Ideal)))) _ g n q

end

end Cert.SsdPoint
end
-- ==== Proof.SsdExt.lean ====
module

public import proofs.«01_k».proof.Proof.SsdPoint
import Idealize.ShloMosaic.Lib.Pipeline.ReadBack
import Idealize.ShloMosaic.Lib.WritesUnit

@[expose] public section

set_option maxRecDepth 65536
set_option maxHeartbeats 4000000

noncomputable section

open Idealize.ShloMosaic Idealize.ShloMosaic.TcCoe Idealize.SL.Sem

/-! The numbers a grid point of the state-space kernel reads back from its carried rows and state. -/
namespace Cert.SsdPoint

open Cert.KernelIdeal Cert.KernelIdeal.Gen

section
variable (x0 : Vec Ideal S1x128x2048 .f32) (x1 : Vec Ideal S1x128x4096 .f32) (x2 : Vec Ideal S1x128x128 .f32) (x3 : Vec Ideal S4x4096 .f32)
  (x4 : Vec Ideal S1x4096 .f32) (x5 x6 : Vec Ideal S1x128 .f32) (x7 x8 : Vec Ideal S1x2048 .f32) (x9 : Vec Ideal S128x2048 .bf16)
  (xs0 : Vec Ideal S136x4096 .f32) (xs1 : Vec Ideal S8x128x256 .f32)

/-- The rows before and of the point. -/
theorem extB_at (r : Fin 136) (j : Fin 4096) :
    extB xs0 x1 (ix2 r j) = if h : 8 ≤ r.val then x1 (ix3 0 ⟨r.val - 8, by omega⟩ j) else xs0 (ix2 r j) := by
  unfold extB
  by_cases h : 8 ≤ r.val
  · rw [dif_pos h]
    refine (View.read_writes_cons_unit_of_mem _ _ inb_S136x4096_S128x4096_8_0 _ [] _ (ix2 ⟨r.val - 8, by omega⟩ j : S128x4096.Idx) rfl ?_).trans ?_
    · exact Fin.forall_fin_two.mpr ⟨show r.val = 8 + (r.val - 8) by omega, show j.val = 0 + j.val by omega⟩
    · pointwise [k0_pay5, k0_pay4]
  · rw [dif_neg h]
    refine (View.read_writes_cons_unit_of_not_mem _ _ inb_S136x4096_S128x4096_8_0 _ [] _ rfl (0 : Fin 2) (Or.inl (show r.val < 8 by omega))).trans ?_
    exact congrFun (read_unread_whole (Val := Elt Ideal) cc0_scratch0 (Memref.isWhole_whole cc0_scratch0) xs0) _

/-- A sequence's first rows: zeros before them. -/
theorem extA_at (r : Fin 136) (j : Fin 4096) :
    extA x1 (ix2 r j) = if h : 8 ≤ r.val then x1 (ix3 0 ⟨r.val - 8, by omega⟩ j) else 0 := by
  unfold extA
  by_cases h : 8 ≤ r.val
  · rw [dif_pos h]
    have e : (Rect.unit (s := S136x4096) ![8, 0] S128x4096.size inb_S136x4096_S128x4096_8_0).emb (ix2 ⟨r.val - 8, by omega⟩ j : S128x4096.Idx) = ix2 r j := by
      refine (eq_ix2 _).trans (congrArg₂ ix2 (Fin.ext ?_) (Fin.ext ?_)) <;> refine (ValueKit.rect_emb_unit_val _ _ _ _ _).trans ?_
      · exact show 8 + (r.val - 8) = r.val by omega
      · exact Nat.zero_add _
    rw [← e]
    refine (View.canon_cons_emb (Rect.unit (s := S136x4096) ![8, 0] S128x4096.size inb_S136x4096_S128x4096_8_0) _ _ _).trans ?_
    pointwise [k0_pay5, k0_pay4]
  · rw [dif_neg h]
    have m : (ix2 r j : S136x4096.Idx) ∉ (Rect.unit (s := S136x4096) ![8, 0] S128x4096.size inb_S136x4096_S128x4096_8_0).set := by
      rw [Rect.mem_set_unit]
      intro q
      have : 8 ≤ r.val := (q (0 : Fin 2)).1
      omega
    refine (View.canon_cons_of_not_mem (⟨Rect.unit (s := S136x4096) ![8, 0] S128x4096.size inb_S136x4096_S128x4096_8_0, k0_pay5 x1⟩ : View.Piece (Elt Ideal) S136x4096 .f32) _ m).trans ?_
    have e : (Rect.unit (s := S136x4096) ![0, 0] S8x4096.size inb_S136x4096_S8x4096_0_0).emb (ix2 ⟨r.val, by omega⟩ j : S8x4096.Idx) = ix2 r j := by
      refine (eq_ix2 _).trans (congrArg₂ ix2 (Fin.ext ?_) (Fin.ext ?_)) <;> refine (ValueKit.rect_emb_unit_val _ _ _ _ _).trans ?_
      · exact Nat.zero_add _
      · exact Nat.zero_add _
    rw [← e]
    refine (View.canon_cons_emb (Rect.unit (s := S136x4096) ![0, 0] S8x4096.size inb_S136x4096_S8x4096_0_0) _ _ _).trans ?_
    pointwise [k0_pay2]

/-- A group's slab at an index. -/
theorem slab_at (g : Fin 8) (n : Fin 128) (q : Fin 256) : slab xs1 g (ix3 0 n q) = xs1 (ix3 g n q) :=
  congrArg xs1 (slab_emb g 0 n q)

/-- The state before a sequence's first row. -/
theorem slab_zero (g : Fin 8) (n : Fin 128) (q : Fin 256) : slab (k0_pay3 (F := Ideal)) g (ix3 0 n q) = 0 := by
  rw [slab_at]
  pointwise [k0_pay3]

/-- Rows of such rows. -/
theorem rows_at (X : Vec Ideal S136x4096 .f32) (k : ℕ) (hk : k ≤ 8) (inb : ∀ a, (![k, 0] : Fin 2 → ℕ) a + S128x4096.size a ≤ S136x4096.size a)
    (l : Fin 128) (j : Fin 4096) : View.ld X (Rect.unit (s := S136x4096) ![k, 0] S128x4096.size inb) (ix2 l j) = X (ix2 ⟨k + l.val, by omega⟩ j) := by
  refine congrArg X ((eq_ix2 _).trans (congrArg₂ ix2 (Fin.ext ?_) (Fin.ext ?_))) <;> refine (ValueKit.rect_emb_unit_val _ _ _ _ _).trans ?_
  · rfl
  · exact Nat.zero_add _

/-- A row of the convolution's weights. -/
theorem weight_at (k : ℕ) (hk : k < 4) (inb : ∀ a, (![k, 0] : Fin 2 → ℕ) a + S1x4096.size a ≤ S4x4096.size a)
    (j : Fin 4096) : View.ld x3 (Rect.unit (s := S4x4096) ![k, 0] S1x4096.size inb) (ix2 0 j) = x3 (ix2 ⟨k, hk⟩ j) := by
  refine congrArg x3 ((eq_ix2 _).trans (congrArg₂ ix2 (Fin.ext ?_) (Fin.ext ?_))) <;> refine (ValueKit.rect_emb_unit_val _ _ _ _ _).trans ?_
  · rfl
  · exact Nat.zero_add _

/-- The convolved rows at an index. -/
theorem cvx_at (X : Vec Ideal S136x4096 .f32) (l : Fin 128) (j : Fin 4096) :
    cvx X x1 x3 x4 (ix2 l j) = x4 (ix2 0 j) + X (ix2 ⟨5 + l.val, by omega⟩ j) * x3 (ix2 0 j) + X (ix2 ⟨6 + l.val, by omega⟩ j) * x3 (ix2 1 j)
      + X (ix2 ⟨7 + l.val, by omega⟩ j) * x3 (ix2 2 j) + x1 (ix3 0 l j) * x3 (ix2 3 j) := by
  unfold cvx cv
  rw [SsdEarly.conv_at, rows_at X 5 (by omega), rows_at X 6 (by omega), rows_at X 7 (by omega), weight_at x3 0 (by omega), weight_at x3 1 (by omega),
    weight_at x3 2 (by omega), weight_at x3 3 (by omega)]
  have e : k0_pay5 x1 (ix2 l j) = x1 (ix3 0 l j) := by pointwise [k0_pay5, k0_pay4]
  rw [e, mul_comm (x3 (ix2 ⟨0, _⟩ j)), mul_comm (x3 (ix2 ⟨1, _⟩ j)), mul_comm (x3 (ix2 ⟨2, _⟩ j)), mul_comm (x3 (ix2 ⟨3, _⟩ j))]
  rfl

end

end Cert.SsdPoint
end
-- ==== Proof.SsdValue.lean ====
module

public import proofs.«01_k».proof.Proof.SsdBlocks
public import proofs.«01_k».proof.Proof.SsdStep
public import proofs.«01_k».proof.Proof.SsdCarry
public import proofs.«01_k».proof.Proof.SsdExt

@[expose] public section

set_option maxRecDepth 16384

noncomputable section

open Idealize.ShloMosaic Idealize.ShloMosaic.TcCoe Idealize.SL.Sem
open Idealize.ShloMosaic.Pipeline (Dat)

/-! The scan's call. By induction over the grid's points, what a point leaves is the state after its rows; what it stores
is the specification's rows. -/
namespace Cert.SsdValue

open Cert.KernelIdeal Cert.KernelIdeal.Gen Cert.SsdStep

variable (m : (ℓ : Loc nD τ sig) → Buf (Elt Ideal) ℓ) (c : Dev nD)

/-- The projection's rows of a sequence. -/
def P (b : Fin 8) : ℕ → Fin 9216 → EReal := SsdRef.prow (m ((c : Thread nD τ).loc main_arg0)) b
/-- The convolution's weights. -/
def W (k : Fin 4) (j : Fin 4096) : EReal := (m ((c : Thread nD τ).loc main_arg1) : FVec Ideal S4x4096 .f32) (ix2 k j)
/-- The convolution's bias. -/
def Cb (j : Fin 4096) : EReal := (m ((c : Thread nD τ).loc main_arg2) : FVec Ideal S4096 .f32) (ix1 j)
/-- The step's bias. -/
def Db (h : Fin 32) : EReal := (m ((c : Thread nD τ).loc main_arg3) : FVec Ideal S32 .f32) (ix1 h)
/-- The logarithm of the decay rate. -/
def Al (h : Fin 32) : EReal := (m ((c : Thread nD τ).loc main_arg4) : FVec Ideal S32 .f32) (ix1 h)
/-- The skip weight by head. -/
def Ds (h : Fin 32) : EReal := (m ((c : Thread nD τ).loc main_arg5) : FVec Ideal S32 .f32) (ix1 h)
/-- The last scaling. -/
def Nw (j : Fin 2048) : EReal := (m ((c : Thread nD τ).loc main_arg6) : FVec Ideal S2048 .f32) (ix1 j)

variable (t : Fin cfg0.N) (hb : t.val / 16 < 8)

/-- Where the rows before and of a point are the taps, the convolved rows are the specification's. -/
theorem conv_rows (X : Vec Ideal S136x4096 .f32)
    (hX : ∀ (r : Fin 136) (j : Fin 4096), 5 ≤ r.val → X (ix2 r j) = SsdSpec.tap (P m c ⟨t.val / 16, hb⟩) (128 * (t.val % 16) + (r.val - 5)) j)
    (l : Fin 128) (j : Fin 4096) : SsdPoint.cvx X (X0_1 m c t) (iblk m c 3 t) (iblk m c 4 t) (ix2 l j)
      = SsdSpec.conv (P m c ⟨t.val / 16, hb⟩) (W m c) (Cb m c) (128 * (t.val % 16) + l.val) j := by
  refine (SsdPoint.cvx_at _ _ _ X l j).trans ?_
  rw [hX _ j (by dsimp only; omega), hX _ j (by dsimp only; omega), hX _ j (by dsimp only; omega)]
  unfold SsdSpec.conv
  have e0 : 128 * (t.val % 16) + (5 + l.val - 5) = 128 * (t.val % 16) + l.val := by omega
  have e1 : 128 * (t.val % 16) + (6 + l.val - 5) = 128 * (t.val % 16) + l.val + 1 := by omega
  have e2 : 128 * (t.val % 16) + (7 + l.val - 5) = 128 * (t.val % 16) + l.val + 2 := by omega
  have e3 : SsdSpec.tap (P m c ⟨t.val / 16, hb⟩) (128 * (t.val % 16) + l.val + 3) j
      = P m c ⟨t.val / 16, hb⟩ (128 * (t.val % 16) + l.val) ⟨4096 + j.val, by omega⟩ := by
    unfold SsdSpec.tap
    rw [if_pos (by omega)]
    rfl
  dsimp only
  rw [e0, e1, e2, e3]
  refine congrArg₂ (· + ·) (congrArg₂ (· + ·) (congrArg₂ (· + ·) (congrArg₂ (· + ·) ?_ (congrArg₂ (· * ·) rfl ?_)) (congrArg₂ (· * ·) rfl ?_)) (congrArg₂ (· * ·) rfl ?_)) (congrArg₂ (· * ·) ?_ ?_)
  · exact SsdBlocks.cb_at m c t j
  · exact SsdBlocks.w_at m c t 0 j
  · exact SsdBlocks.w_at m c t 1 j
  · exact SsdBlocks.w_at m c t 2 j
  · exact SsdBlocks.xbc_at m c t hb l j
  · exact SsdBlocks.w_at m c t 3 j

/-- A row of the point itself, as a tap. -/
theorem own_row (r : Fin 136) (j : Fin 4096) (h : 8 ≤ r.val) : X0_1 m c t (ix3 0 ⟨r.val - 8, by omega⟩ j)
    = SsdSpec.tap (P m c ⟨t.val / 16, hb⟩) (128 * (t.val % 16) + (r.val - 5)) j := by
  unfold SsdSpec.tap
  rw [if_pos (by omega)]
  refine (SsdBlocks.xbc_at m c t hb _ j).trans ?_
  rw [show 128 * (t.val % 16) + (r.val - 5) - 3 = 128 * (t.val % 16) + (r.val - 8) by omega]
  rfl

/-- What a point's blocks hold. -/
theorem holds (v : FVec Ideal S128x4096 .f32) (prev : Fin 8 → Vec Ideal S1x128x256 .f32)
    (hv : ∀ (l : Fin 128) (j : Fin 4096), v (ix2 l j) = SsdSpec.conv (P m c ⟨t.val / 16, hb⟩) (W m c) (Cb m c) (128 * (t.val % 16) + l.val) j)
    (hp : ∀ (g : Fin 8) (n : Fin 128) (q : Fin 256), prev g (ix3 0 n q)
      = SsdSpec.state (P m c ⟨t.val / 16, hb⟩) (W m c) (Cb m c) (Db m c) (Al m c) (col g q) n (128 * (t.val % 16))) :
    Holds (P m c ⟨t.val / 16, hb⟩) (W m c) (Cb m c) (Db m c) (Al m c) (Ds m c) (Nw m c) (128 * (t.val % 16)) (X0_0 m c t) (iblk m c 2 t)
      (iblk m c 5 t) (iblk m c 6 t) (iblk m c 7 t) (iblk m c 8 t) (iblk m c 9 t) v prev where
  z_at := SsdBlocks.z_at m c t hb
  dt_at := SsdBlocks.dt_at m c t hb
  db_at := SsdBlocks.db_at m c t
  al_at := SsdBlocks.al_at m c t
  ds_at := SsdBlocks.ds_at m c t
  nw_at := SsdBlocks.nw_at m c t
  e_at := SsdBlocks.e_at m c t
  conv_at := hv
  state_at := hp

/-- A sequence's first point: no rows before it, and the state zero. -/
theorem holds_first (h0 : t.val % 16 = 0) :
    Holds (P m c ⟨t.val / 16, hb⟩) (W m c) (Cb m c) (Db m c) (Al m c) (Ds m c) (Nw m c) (128 * (t.val % 16)) (X0_0 m c t) (iblk m c 2 t)
      (iblk m c 5 t) (iblk m c 6 t) (iblk m c 7 t) (iblk m c 8 t) (iblk m c 9 t)
      (SsdPoint.cvx (SsdPoint.extA (X0_1 m c t)) (X0_1 m c t) (iblk m c 3 t) (iblk m c 4 t)) (SsdPoint.slab (k0_pay3 (F := Ideal))) := by
  refine holds m c t hb _ _ (conv_rows m c t hb _ fun r j h => ?_) fun g n q => ?_
  · refine (SsdPoint.extA_at _ r j).trans ?_
    by_cases h8 : 8 ≤ r.val
    · rw [dif_pos h8]
      exact own_row m c t hb r j h8
    · rw [dif_neg h8]
      unfold SsdSpec.tap
      rw [if_neg (by omega)]
  · rw [h0]
    exact SsdPoint.slab_zero g n q

/-- The last eight rows of a point, kept for the next. -/
theorem tail (r : Fin 8) (j : Fin 4096) : (outsAt0 m c t.val t.isLt).2.1 (ix2 ⟨r.val, by omega⟩ j)
    = P m c ⟨t.val / 16, hb⟩ (128 * (t.val % 16) + (120 + r.val)) ⟨4096 + j.val, by omega⟩ := by
  by_cases h0 : t.val % 16 = 0
  · rw [outsAt0_A m c t h0]
    dsimp only
    rw [SsdPoint.tailA _ _ _ _ _ _ _ _ _ _ c t _ r j]
    exact SsdBlocks.xbc_at m c t hb _ j
  · rw [outsAt0_B m c t h0]
    dsimp only
    rw [SsdPoint.tailB _ _ _ _ _ _ _ _ _ _ _ _ c t _ r j]
    exact SsdBlocks.xbc_at m c t hb _ j

/-- A later point: the rows before it, and the state they left. -/
theorem holds_later (h0 : ¬t.val % 16 = 0) (hn : t.val - 1 < cfg0.N)
    (hs : ∀ (g : Fin 8) (n : Fin 128) (q : Fin 256), (outsAt0 m c (t.val - 1) hn).2.2 (ix3 g n q)
      = SsdSpec.state (P m c ⟨t.val / 16, hb⟩) (W m c) (Cb m c) (Db m c) (Al m c) (col g q) n (128 * (t.val % 16))) :
    Holds (P m c ⟨t.val / 16, hb⟩) (W m c) (Cb m c) (Db m c) (Al m c) (Ds m c) (Nw m c) (128 * (t.val % 16)) (X0_0 m c t) (iblk m c 2 t)
      (iblk m c 5 t) (iblk m c 6 t) (iblk m c 7 t) (iblk m c 8 t) (iblk m c 9 t)
      (SsdPoint.cvx (SsdPoint.extB (outsAt0 m c (t.val - 1) hn).2.1 (X0_1 m c t)) (X0_1 m c t) (iblk m c 3 t) (iblk m c 4 t))
      (SsdPoint.slab (outsAt0 m c (t.val - 1) hn).2.2) := by
  refine holds m c t hb _ _ (conv_rows m c t hb _ fun r j h => ?_) fun g n q => (SsdPoint.slab_at _ g n q).trans (hs g n q)
  refine (SsdPoint.extB_at _ _ r j).trans ?_
  by_cases h8 : 8 ≤ r.val
  · rw [dif_pos h8]
    exact own_row m c t hb r j h8
  · rw [dif_neg h8]
    unfold SsdSpec.tap
    rw [if_pos (by omega)]
    refine (tail m c ⟨t.val - 1, hn⟩ (by dsimp only; omega) ⟨r.val, by omega⟩ j).trans ?_
    have e : (t.val - 1) / 16 = t.val / 16 := by omega
    simp only [e]
    rw [show 128 * (t.val % 16) + (r.val - 5) - 3 = 128 * ((t.val - 1) % 16) + (120 + r.val) by omega]

variable (f : ∀ b, SsdSpec.Finite (P m c b) (W m c) (Cb m c) (Db m c) (Al m c))
include f

/-- The state after a sequence's first point. -/
theorem state_first (h0 : t.val % 16 = 0) (g : Fin 8) (k : Fin 128) (q : Fin 256) : (outsAt0 m c t.val t.isLt).2.2 (ix3 g k q)
    = SsdSpec.state (P m c ⟨t.val / 16, hb⟩) (W m c) (Cb m c) (Db m c) (Al m c) (col g q) k (128 * (t.val % 16) + 128) := by
  have H := holds_first m c t hb h0
  rw [outsAt0_A m c t h0]
  dsimp only
  rw [SsdPoint.stateA]
  exact SsdStep.state_at H (f _) g k q

/-- The state after a later point. -/
theorem state_later (h0 : ¬t.val % 16 = 0)
    (hs : ∀ (g : Fin 8) (n : Fin 128) (q : Fin 256), (outsAt0 m c (t.val - 1) (Nat.lt_of_le_of_lt (Nat.sub_le _ _) t.isLt)).2.2 (ix3 g n q)
      = SsdSpec.state (P m c ⟨t.val / 16, hb⟩) (W m c) (Cb m c) (Db m c) (Al m c) (col g q) n (128 * (t.val % 16)))
    (g : Fin 8) (k : Fin 128) (q : Fin 256) : (outsAt0 m c t.val t.isLt).2.2 (ix3 g k q)
    = SsdSpec.state (P m c ⟨t.val / 16, hb⟩) (W m c) (Cb m c) (Db m c) (Al m c) (col g q) k (128 * (t.val % 16) + 128) := by
  have H := holds_later m c t hb h0 _ hs
  rw [outsAt0_B m c t h0]
  dsimp only
  rw [SsdPoint.stateB]
  exact SsdStep.state_at H (f _) g k q

/-- The state after every point. -/
theorem carried (n : ℕ) : ∀ (hn : n < cfg0.N) (hb : n / 16 < 8) (g : Fin 8) (k : Fin 128) (q : Fin 256), (outsAt0 m c n hn).2.2 (ix3 g k q)
    = SsdSpec.state (P m c ⟨n / 16, hb⟩) (W m c) (Cb m c) (Db m c) (Al m c) (col g q) k (128 * (n % 16) + 128) := by
  induction n using Nat.strong_induction_on with
  | _ n ih =>
    intro hn hb g k q
    by_cases h0 : n % 16 = 0
    · exact state_first m c ⟨n, hn⟩ hb f h0 g k q
    · refine state_later m c ⟨n, hn⟩ hb f h0 (fun g k q => ?_) g k q
      refine (ih (n - 1) (by omega) _ (by omega) g k q).trans ?_
      have e : (n - 1) / 16 = n / 16 := by omega
      have e' : 128 * ((n - 1) % 16) + 128 = 128 * (n % 16) := by omega
      simp only [e, e']

/-- What every point stores. -/
theorem stored (z : Fin 1) (l : Fin 128) (j : Fin 2048) : (outsAt0 m c t.val t.isLt).1 (ix3 z l j)
    = SsdSpec.out (P m c ⟨t.val / 16, hb⟩) (W m c) (Cb m c) (Db m c) (Al m c) (Ds m c) (Nw m c) (128 * (t.val % 16) + l.val) j := by
  by_cases h0 : t.val % 16 = 0
  · have H := holds_first m c t hb h0
    rw [outsAt0_A m c t h0]
    dsimp only
    rw [SsdPoint.outA]
    exact SsdStep.out_at H (f _) z l j
  · have H := holds_later m c t hb h0 (Nat.lt_of_le_of_lt (Nat.sub_le _ _) t.isLt) fun g k q => by
      refine (carried m c f (t.val - 1) _ (by omega) g k q).trans ?_
      have e : (t.val - 1) / 16 = t.val / 16 := by omega
      have e' : 128 * ((t.val - 1) % 16) + 128 = 128 * (t.val % 16) := by omega
      simp only [e, e']
    rw [outsAt0_B m c t h0]
    dsimp only
    rw [SsdPoint.outB]
    exact SsdStep.out_at H (f _) z l j

omit f

/-- The specification's result over the call's arguments. -/
def goal : FVec Ideal S8x2048x2048 .bf16 := fun i =>
  SsdSpec.out (P m c (i 0)) (W m c) (Cb m c) (Db m c) (Al m c) (Ds m c) (Nw m c) (i 1).val (i 2)

include f

/-- The specification at the place of a point's stored entry. -/
theorem point (y : S1x128x2048.Idx) : (outsAt0 m c t.val t.isLt).1 y = goal m c ((win0_10.blk t).view.emb y) := by
  have ht : t.val < 128 := t.isLt
  have h1 : (y 1).val < 128 := (y 1).isLt
  rw [SsdBlocks.place t y (by omega) (by omega)]
  have e := stored m c t (by omega) f (y 0) (y 1) (y 2)
  rw [← eq_ix3 y] at e
  exact e

/-- The output array after the call is the specification's result. -/
theorem final : (dats m 0 c).arrAt 10 (cfgs 0).N = goal m c := by
  refine (dats m 0 c).arrAt_eq_of_covers 10 _ (by decide +kernel) fun t _ y => ?_
  refine Eq.trans ?_ (point m c t f y)
  blk_simp
  rw [after0_10]

end Cert.SsdValue

end
-- ==== Proof.MixValue.lean ====
module

public import proofs.«01_k».proof.Proof.Rows
public import proofs.«01_k».proof.Proof.Gen.MixIdeal.Frame
public import proofs.«01_k».proof.Proof.Gen.MixRefIdeal.Read

@[expose] public section

set_option maxRecDepth 16384

noncomputable section

open Idealize.ShloMosaic Idealize.ShloMosaic.TcCoe Idealize.SL.Sem
open Idealize.ShloMosaic.Pipeline (Dat)

/-! The gated merge's call: a grid point's stored block and the reference's result, both read as `Rows.mix` of a row. -/
namespace Cert.MixProof

section Ref
open Cert.MixRefIdeal Cert.MixRefIdeal.Gen Cert.MixRefIdeal.Read

/-- The reference at row `(b, l)` and column `j`. -/
theorem ref (x0 : FVec Ideal S8x2048x1024 .bf16) (x1 : FVec Ideal S8x2048x2048 .bf16) (x2 : FVec Ideal S8x2048x9216 .f32)
    (x3 : FVec Ideal S8x2048x1024 .f32) (x4 : FVec Ideal S8x6144 .f32) (x5 : FVec Ideal S1024 .f32)
    (x6 : FVec Ideal S1024x1024 .f32) (x7 : FVec Ideal S2048x1024 .f32) (x8 : FVec Ideal S1024x1024 .f32)
    (b : Fin 8) (l : Fin 2048) (j : Fin 1024) :
    val_main_v44 (F := Ideal) x0 x1 x2 x3 x4 x5 x6 x7 x8 (ix3 b l j)
      = Rows.mix (fun k => x0 (ix3 b l k)) (fun k => x1 (ix3 b l k)) (fun k => x2 (ix3 b l ⟨1024 + k.val, by omega⟩))
          (fun k => x2 (ix3 b l ⟨8192 + k.val, by omega⟩)) (fun k => x3 (ix3 b l k)) (fun k => x4 (ix2 b ⟨2048 + k.val, by omega⟩))
          (fun k => x5 (ix1 k)) (fun a k => x6 (ix2 a k)) (fun a k => x7 (ix2 a k)) (fun a k => x8 (ix2 a k)) j := by
  pointwise! [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28, val_main_v29, val_main_cst_3, val_main_v30, val_main_v31, val_main_cst_4, val_main_v32, val_main_v33, val_main_cst_5, val_main_v34, val_main_v35, val_main_v36, val_main_v37, val_main_v38, val_main_v39, val_main_v40, val_main_v41, val_main_v42, val_main_v43, val_main_v44, Rows.mix, Rows.addNormed, Rows.merged, Rows.inv, Rows.sig]

end Ref

section Kernel
open Cert.MixIdeal Cert.MixIdeal.Gen

/-- What a grid point stores, at row `r` of its block and column `j`. -/
theorem pay (x0 : FVec Ideal S1x512x1024 .bf16) (x1 : FVec Ideal S1x512x2048 .bf16) (x2 x3 x4 : FVec Ideal S1x512x1024 .f32)
    (x5 : FVec Ideal S1x6x1024 .f32) (x6 : FVec Ideal S1x1024 .f32) (x7 : FVec Ideal S1024x1024 .bf16)
    (x8 : FVec Ideal S2048x1024 .bf16) (x9 : FVec Ideal S1024x1024 .bf16) (z : Fin 1) (r : Fin 512) (j : Fin 1024) :
    k0_pay1 (F := Ideal) (k0_pay2 x0 x7 x1 x8 x2 x3 x9) (k0_pay3 x4) (k0_pay4 x5) x6 (ix3 z r j)
      = Rows.mix (fun k => x0 (ix3 0 r k)) (fun k => x1 (ix3 0 r k)) (fun k => x2 (ix3 0 r k)) (fun k => x3 (ix3 0 r k))
          (fun k => x4 (ix3 0 r k)) (fun k => x5 (ix3 0 2 k)) (fun k => x6 (ix2 0 k)) (fun a k => x7 (ix2 a k))
          (fun a k => x8 (ix2 a k)) (fun a k => x9 (ix2 a k)) j := by
  pointwise! [k0_pay1, k0_pay2, k0_pay3, k0_pay4, Rows.mean_1024, Rows.mix, Rows.addNormed, Rows.merged, Rows.inv, Rows.sig]

variable (m : (ℓ : Loc nD τ sig) → Buf (Elt Ideal) ℓ)

/-- The block of every window at a grid point: point `t` handles sequence `t / 4`, its rows from `512 (t % 4)`; the two
    gates are column blocks 1 and 8 of the combined projection. -/
theorem idx : ∀ t : Fin cfg0.N, win0_0.index t = ![t.val / 4, t.val % 4, 0] ∧ win0_1.index t = ![t.val / 4, t.val % 4, 0]
    ∧ win0_2.index t = ![t.val / 4, t.val % 4, 1] ∧ win0_3.index t = ![t.val / 4, t.val % 4, 8]
    ∧ win0_4.index t = ![t.val / 4, t.val % 4, 0] ∧ win0_5.index t = ![t.val / 4, 0, 0]
    ∧ win0_6.index t = ![0, 0] ∧ win0_7.index t = ![0, 0] ∧ win0_8.index t = ![0, 0] ∧ win0_9.index t = ![0, 0]
    ∧ win0_10.index t = ![t.val / 4, t.val % 4, 0] :=
  (by decide +kernel : ∀ t : Fin grid0.N, _)

/-- The reference's composed term over the kernel's argument arrays. -/
def goal (c : Dev nD) : FVec Ideal S8x2048x1024 .f32 :=
  Cert.MixRefIdeal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- A grid point's stored block is the reference's result read at that block. -/
theorem point (c : Dev nD) (t : Fin cfg0.N) (y : S1x512x1024.Idx) :
    k0_pay1 (F := Ideal) (k0_pay2 (iblk m c 0 t) (iblk m c 7 t) (iblk m c 1 t) (iblk m c 8 t) (iblk m c 2 t) (iblk m c 3 t) (iblk m c 9 t))
        (k0_pay3 (iblk m c 4 t)) (k0_pay4 (iblk m c 5 t)) (iblk m c 6 t) y
      = goal m c ((win0_10.blk t).view.emb y) := by
  rw [eq_ix3 y, eq_ix3 ((win0_10.blk t).view.emb _)]
  refine (pay _ _ _ _ _ _ _ _ _ _ (y 0) (y 1) (y 2)).trans (Eq.trans ?_ (ref _ _ _ _ _ _ _ _ _ _ _ _).symm)
  blk_point [iblk, V, idx t]

/-- The output array after the call is the reference's result. -/
theorem final (c : Dev nD) : (dats m 0 c).arrAt 10 (cfgs 0).N = goal m c := by
  refine (dats m 0 c).arrAt_eq_of_covers 10 _ (by decide +kernel) fun t _ y => ?_
  blk_simp
  rw [after0_10]
  frame_out
  exact point m c t y

end Kernel

end Cert.MixProof

end
-- ==== Proof.InprojValue.lean ====
module

public import proofs.«01_k».proof.Proof.Rows
public import proofs.«01_k».proof.Proof.Gen.InprojIdeal.Value
public import proofs.«01_k».proof.Proof.Gen.InprojRefIdeal.Read

@[expose] public section

set_option maxRecDepth 16384

noncomputable section

open Idealize.ShloMosaic Idealize.ShloMosaic.TcCoe Idealize.SL.Sem
open Idealize.ShloMosaic.Pipeline (Dat)

/-! The combined projection's call. Its result holds the reference's column groups in another order, with zero columns
between them; the call multiplies by a weight matrix packed in that order, and keeps the modulated rows of one block
between the column blocks of a sweep. -/
namespace Cert.InprojProof

/-- The column of the weight matrix that column `n` of the result comes from; `none` for a zero column. -/
def src (n : Fin 9216) : Option (Fin 8688) :=
  if h : n.val < 448 then some ⟨n.val, by omega⟩
  else if n.val < 512 then none
  else if h : n.val < 528 then some ⟨n.val - 64, by omega⟩
  else if n.val < 640 then none
  else if h : n.val < 672 then some ⟨n.val + 5968, by omega⟩
  else if n.val < 1024 then none
  else if h : n.val < 2048 then some ⟨n.val + 5616, by omega⟩
  else if h : n.val < 8192 then some ⟨n.val - 1584, by omega⟩
  else some ⟨n.val - 528, by omega⟩

/-- The product of a row and the result's column `n`: zero for a zero column. -/
def col (h : Fin 1024 → EReal) (w : Fin 1024 → Fin 8688 → EReal) (n : Fin 9216) : EReal :=
  (src n).elim 0 fun j => ∑ k, h k * w k j

section Ref
open Cert.InprojRefIdeal Cert.InprojRefIdeal.Gen Cert.InprojRefIdeal.Read

/-- The reference's projection before its columns are regrouped. -/
theorem proj (x0 : FVec Ideal S8x2048x1024 .f32) (x1 : FVec Ideal S8x6144 .f32) (x2 : FVec Ideal S1024 .f32)
    (x3 : FVec Ideal S1024x8688 .f32) (b : Fin 8) (l : Fin 2048) (n : Fin 8688) :
    val_main_v26 (F := Ideal) x0 x1 x2 x3 (ix3 b l n)
      = ∑ k : Fin 1024, Rows.modulated (fun k => x0 (ix3 b l k)) (fun k => x2 (ix1 k)) (fun k => x1 (ix2 b ⟨1024 + k.val, by omega⟩))
          (fun k => x1 (ix2 b ⟨k.val, by omega⟩)) k * x3 (ix2 k n) := by
  pointwise! [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25, val_main_v26, Rows.modulated, Rows.inv]

set_option maxHeartbeats 1600000 in
/-- The reference at row `(b, l)` and column `n`. -/
theorem ref (x0 : FVec Ideal S8x2048x1024 .f32) (x1 : FVec Ideal S8x6144 .f32) (x2 : FVec Ideal S1024 .f32)
    (x3 : FVec Ideal S1024x8688 .f32) (b : Fin 8) (l : Fin 2048) (n : Fin 9216) :
    val_main_v39 (F := Ideal) x0 x1 x2 x3 (ix3 b l n)
      = col (Rows.modulated (fun k => x0 (ix3 b l k)) (fun k => x2 (ix1 k)) (fun k => x1 (ix2 b ⟨1024 + k.val, by omega⟩))
          (fun k => x1 (ix2 b ⟨k.val, by omega⟩))) (fun k j => x3 (ix2 k j)) n := by
  unfold col
  simp only [← proj]
  pointwise [val_main_v27, val_main_v28, val_main_v29, val_main_v30, val_main_v31, val_main_v32, val_main_v33, val_main_v34, val_main_v35, val_main_cst_3, val_main_v36, val_main_cst_4, val_main_v37, val_main_cst_5, val_main_v38, val_main_v39]
  unfold src
  rcases (by omega : n.val < 256 ∨ (256 ≤ n.val ∧ n.val < 384) ∨ (384 ≤ n.val ∧ n.val < 448) ∨ (448 ≤ n.val ∧ n.val < 512) ∨ (512 ≤ n.val ∧ n.val < 528) ∨ (528 ≤ n.val ∧ n.val < 640) ∨ (640 ≤ n.val ∧ n.val < 672) ∨ (672 ≤ n.val ∧ n.val < 1024) ∨ (1024 ≤ n.val ∧ n.val < 2048) ∨ (2048 ≤ n.val ∧ n.val < 4096) ∨ (4096 ≤ n.val ∧ n.val < 8192) ∨ 8192 ≤ n.val) with a | a | a | a | a | a | a | a | a | a | a | a <;>
    simp (disch := omega) only [dif_pos, dif_neg, if_pos, if_neg, Option.elim]
  all_goals exact congrArg (fun q : Fin 8688 => val_main_v26 (F := Ideal) x0 x1 x2 x3 (ix3 b l q)) (Fin.ext (by dsimp only <;> omega))

end Ref

section Kernel
open Cert.InprojIdeal Cert.InprojIdeal.Gen

/-- The modulated rows a sweep's first point computes, at row `r` and column `k`. -/
theorem pay1 (x0 : FVec Ideal S1x1024x1024 .f32) (x1 : FVec Ideal S1x6x1024 .f32) (x2 : FVec Ideal S1x1024 .f32)
    (r : Fin 1024) (k : Fin 1024) :
    k0_pay1 (F := Ideal) x1 x0 x2 (ix2 r k)
      = Rows.modulated (fun k => x0 (ix3 0 r k)) (fun k => x2 (ix2 0 k)) (fun k => x1 (ix3 0 1 k)) (fun k => x1 (ix3 0 0 k)) k := by
  pointwise! [k0_pay1, Rows.mean_1024, Rows.modulated, Rows.inv]

/-- The block a point stores, over the modulated rows and its block of packed weights. -/
theorem pay2 (h w : FVec Ideal S1024x1024 .bf16) (z : Fin 1) (r j : Fin 1024) :
    k0_pay2 (F := Ideal) h w (ix3 z r j) = ∑ k : Fin 1024, h (ix2 r k) * w (ix2 k j) := by
  pointwise! [k0_pay2]

variable (m : (ℓ : Loc nD τ sig) → Buf (Elt Ideal) ℓ)

/-- The block of every window at a grid point: point `t` handles sequence `t / 18`, its rows from `1024 (t / 9 % 2)`, and
    the result's columns from `1024 (t % 9)`. -/
theorem idx : ∀ t : Fin cfg0.N, win0_0.index t = ![t.val / 18, t.val / 9 % 2, 0] ∧ win0_1.index t = ![t.val / 18, 0, 0]
    ∧ win0_2.index t = ![0, 0] ∧ win0_3.index t = ![0, t.val % 9] ∧ win0_4.index t = ![t.val / 18, t.val / 9 % 2, t.val % 9] :=
  (by decide +kernel : ∀ t : Fin grid0.N, _)

/-- The reference's composed term over the kernel's argument arrays. -/
def goal (c : Dev nD) : FVec Ideal S8x2048x9216 .f32 :=
  Cert.InprojRefIdeal.Read.val_main_v39 (F := Ideal) (m ((c : Thread nD τ).loc main_arg0)) (m ((c : Thread nD τ).loc main_arg1))
    (m ((c : Thread nD τ).loc main_arg2)) (m ((c : Thread nD τ).loc main_arg3))

/-- The first group of packed columns: the narrow projections, with zero columns up to each multiple of a lane tile. -/
def narrow (w : FVec Ideal S1024x8688 .f32) : FVec Ideal S1024x1024 .f32 :=
  concatenate S1024x1024 1
    [ ⟨S1024x256, extractStridedSlice S1024x256 ![0, 0] w slices_S1024x8688_S1024x256_0_0⟩,
      ⟨S1024x128, extractStridedSlice S1024x128 ![0, 256] w slices_S1024x8688_S1024x128_0_256⟩,
      ⟨S1024x64, extractStridedSlice S1024x64 ![0, 384] w slices_S1024x8688_S1024x64_0_384⟩,
      ⟨S1024x64, broadcastInDim S1024x64 ![] bcast_S_S1024x64 (constant (F := Ideal) S_ .f32 0x00000000#32)⟩,
      ⟨S1024x16, extractStridedSlice S1024x16 ![0, 448] w slices_S1024x8688_S1024x16_0_448⟩,
      ⟨S1024x112, broadcastInDim S1024x112 ![] bcast_S_S1024x112 (constant (F := Ideal) S_ .f32 0x00000000#32)⟩,
      ⟨S1024x32, extractStridedSlice S1024x32 ![0, 6608] w slices_S1024x8688_S1024x32_0_6608⟩,
      ⟨S1024x96, broadcastInDim S1024x96 ![] bcast_S_S1024x96 (constant (F := Ideal) S_ .f32 0x00000000#32)⟩,
      ⟨S1024x256, broadcastInDim S1024x256 ![] bcast_S_S1024x256 (constant (F := Ideal) S_ .f32 0x00000000#32)⟩ ]
    concatenates_S1024x256_S1024x128_S1024x64_S1024x64_S1024x16_S1024x112_S1024x32_S1024x96_S1024x256_S1024x1024_d1

/-- The packed weight matrix. -/
def pack (w : FVec Ideal S1024x8688 .f32) : FVec Ideal S1024x9216 .f32 :=
  concatenate S1024x9216 1
    [ ⟨S1024x1024, narrow w⟩,
      ⟨S1024x1024, extractStridedSlice S1024x1024 ![0, 6640] w slices_S1024x8688_S1024x1024_0_6640⟩,
      ⟨S1024x2048, extractStridedSlice S1024x2048 ![0, 464] w slices_S1024x8688_S1024x2048_0_464⟩,
      ⟨S1024x4096, extractStridedSlice S1024x4096 ![0, 2512] w slices_S1024x8688_S1024x4096_0_2512⟩,
      ⟨S1024x1024, extractStridedSlice S1024x1024 ![0, 7664] w slices_S1024x8688_S1024x1024_0_7664⟩ ]
    concatenates_S1024x1024_S1024x1024_S1024x2048_S1024x4096_S1024x1024_S1024x9216_d1

/-- The call's packed weights are `pack` of the weight argument. -/
theorem packs (c : Dev nD) : (V m c main_v16 : FVec Ideal S1024x9216 .bf16)
    = truncf .bf16 (pack (m ((c : Thread nD τ).loc main_arg3))) bitsLt_bf16_f32 := by
  unfold V
  after_reads_simp
  rfl

/-- The first group's column `n`. -/
theorem narrow_at (w : FVec Ideal S1024x8688 .f32) (k n : Fin 1024) :
    narrow w (ix2 k n) = (src ⟨n.val, by omega⟩).elim (0 : EReal) fun j => w (ix2 k j) := by
  pointwise [narrow]
  unfold src
  rcases (by omega : n.val < 256 ∨ (256 ≤ n.val ∧ n.val < 384) ∨ (384 ≤ n.val ∧ n.val < 448) ∨ (448 ≤ n.val ∧ n.val < 512) ∨ (512 ≤ n.val ∧ n.val < 528) ∨ (528 ≤ n.val ∧ n.val < 640) ∨ (640 ≤ n.val ∧ n.val < 672) ∨ (672 ≤ n.val ∧ n.val < 768) ∨ 768 ≤ n.val) with a | a | a | a | a | a | a | a | a <;>
    simp (disch := omega) only [dif_pos, dif_neg, if_pos, if_neg, Option.elim]
  all_goals exact congrArg (fun q : Fin 8688 => w (ix2 k q)) (Fin.ext (by dsimp only <;> omega))

/-- The packed weights at row `k` and column `n`. -/
theorem packed (c : Dev nD) (k : Fin 1024) (n : Fin 9216) :
    (V m c main_v16 : FVec Ideal S1024x9216 .bf16) (ix2 k n)
      = ((src n).elim (0 : EReal) fun j => (m ((c : Thread nD τ).loc main_arg3) : FVec Ideal S1024x8688 .f32) (ix2 k j)) := by
  rw [packs]
  generalize m ((c : Thread nD τ).loc main_arg3) = w
  pointwise [pack, narrow_at]
  by_cases a : n.val < 1024
  · rw [dif_pos a]
  unfold src
  rcases (by omega : (1024 ≤ n.val ∧ n.val < 2048) ∨ (2048 ≤ n.val ∧ n.val < 4096) ∨ (4096 ≤ n.val ∧ n.val < 8192) ∨ 8192 ≤ n.val) with a | a | a | a <;>
    simp (disch := omega) only [dif_pos, dif_neg, if_pos, if_neg, Option.elim]
  all_goals exact congrArg (fun q : Fin 8688 => w (ix2 k q)) (Fin.ext (by dsimp only <;> omega))

/-- The modulated rows of sequence `q / 2`, from row `1024 (q % 2)`. -/
def rows (c : Dev nD) (q : Fin 16) (r k : Fin 1024) : EReal :=
  Rows.modulated (fun k => (m ((c : Thread nD τ).loc main_arg0) : FVec Ideal S8x2048x1024 .f32) (ix3 ⟨q.val / 2, by omega⟩ ⟨1024 * (q.val % 2) + r.val, by omega⟩ k))
    (fun k => (m ((c : Thread nD τ).loc main_arg2) : FVec Ideal S1024 .f32) (ix1 k))
    (fun k => (m ((c : Thread nD τ).loc main_arg1) : FVec Ideal S8x6144 .f32) (ix2 ⟨q.val / 2, by omega⟩ ⟨1024 + k.val, by omega⟩))
    (fun k => (m ((c : Thread nD τ).loc main_arg1) : FVec Ideal S8x6144 .f32) (ix2 ⟨q.val / 2, by omega⟩ ⟨k.val, by omega⟩)) k

/-- What a sweep's first point computes from its blocks is the modulated rows. -/
theorem first (c : Dev nD) (t : Fin cfg0.N) (hq : t.val / 9 < 16) (r k : Fin 1024) :
    k0_pay1 (F := Ideal) (iblk m c 1 t) (iblk m c 0 t) (iblk m c 2 t) (ix2 r k) = rows m c ⟨t.val / 9, hq⟩ r k := by
  refine (pay1 _ _ _ r k).trans ?_
  unfold rows
  blk_point [iblk, V, idx t]

/-- What the scratch holds after every point: the modulated rows of the point's sweep. -/
theorem carried (c : Dev nD) : ∀ (n : ℕ) (hn : n < cfg0.N) (hq : n / 9 < 16) (r k : Fin 1024),
    (outsAt0 m c n hn).2 (ix2 r k) = rows m c ⟨n / 9, hq⟩ r k := by
  intro n
  induction n with
  | zero =>
    intro hn hq r k
    rw [outsAt0_A m c ⟨0, hn⟩ (Nat.zero_mod _)]
    frame_out
    exact first m c ⟨0, hn⟩ hq r k
  | succ n ih =>
    intro hn hq r k
    by_cases h0 : (n + 1) % 9 = 0
    · rw [outsAt0_A m c ⟨n + 1, hn⟩ h0]
      frame_out
      exact first m c ⟨n + 1, hn⟩ hq r k
    · rw [outsAt0_B m c ⟨n + 1, hn⟩ h0]
      dsimp only [sout0_B_0]
      have e : n / 9 = (n + 1) / 9 := by omega
      refine (ih (by omega) (by omega) r k).trans ?_
      simp only [e]

/-- What every point stores. -/
theorem stored (c : Dev nD) (t : Fin cfg0.N) (hq : t.val / 9 < 16) (y : S1x1024x1024.Idx) :
    (outsAt0 m c t.val t.isLt).1 y
      = ∑ k : Fin 1024, rows m c ⟨t.val / 9, hq⟩ (y 1) k * iblk m c 3 t (ix2 k (y 2)) := by
  rw [eq_ix3 y]
  by_cases h0 : t.val % 9 = 0
  · rw [outsAt0_A m c t h0]
    frame_out
    refine (pay2 _ _ (y 0) (y 1) (y 2)).trans (Finset.sum_congr rfl fun k _ => ?_)
    refine Ideal.mul_congr ?_ rfl
    exact first m c t hq (y 1) k
  · rw [outsAt0_B m c t h0]
    frame_out
    refine (pay2 _ _ (y 0) (y 1) (y 2)).trans (Finset.sum_congr rfl fun k _ => ?_)
    refine Ideal.mul_congr ?_ rfl
    refine (congrFun (Memref.IsWhole.read_unread _ _) _).trans ?_
    refine (carried m c (t.val - 1) _ (by omega) (y 1) k).trans ?_
    have e : (t.val - 1) / 9 = t.val / 9 := by omega
    simp only [e]
    rfl

/-- The block of packed weights at a grid point. -/
theorem weights (c : Dev nD) (t : Fin cfg0.N) (k j : Fin 1024) (hn : 1024 * (t.val % 9) + j.val < 9216) :
    iblk m c 3 t (ix2 k j)
      = ((src ⟨1024 * (t.val % 9) + j.val, hn⟩).elim (0 : EReal) fun j => (m ((c : Thread nD τ).loc main_arg3) : FVec Ideal S1024x8688 .f32) (ix2 k j)) := by
  refine Eq.trans ?_ (packed m c k _)
  blk_point [iblk, idx t]

/-- Where a point's stored block lies in the result. -/
theorem place (t : Fin cfg0.N) (y : S1x1024x1024.Idx) (h0 : t.val / 18 < 8) (h1 : 1024 * (t.val / 9 % 2) + (y 1).val < 2048)
    (h2 : 1024 * (t.val % 9) + (y 2).val < 9216) :
    (win0_4.blk t).view.emb y = ix3 ⟨t.val / 18, h0⟩ ⟨1024 * (t.val / 9 % 2) + (y 1).val, h1⟩ ⟨1024 * (t.val % 9) + (y 2).val, h2⟩ := by
  blk_ext [idx t]

/-- The reference at the place of a point's stored entry. -/
theorem point (c : Dev nD) (t : Fin cfg0.N) (y : S1x1024x1024.Idx) :
    (outsAt0 m c t.val t.isLt).1 y = goal m c ((win0_4.blk t).view.emb y) := by
  have ht : t.val < 144 := t.isLt
  have h1 : (y 1).val < 1024 := (y 1).isLt
  have h2 : (y 2).val < 1024 := (y 2).isLt
  refine (stored m c t (by omega) y).trans ?_
  rw [place t y (by omega) (by omega) (by omega)]
  refine Eq.trans ?_ (ref _ _ _ _ _ _ _).symm
  simp only [weights m c t _ (y 2) (by omega)]
  unfold col rows
  have e : t.val / 9 / 2 = t.val / 18 := by omega
  simp only [e]
  cases src ⟨1024 * (t.val % 9) + (y 2).val, by omega⟩ with
  | none => simp only [Option.elim, mul_zero, Finset.sum_const_zero]
  | some j => rfl

/-- The output array after the call is the reference's result. -/
theorem final (c : Dev nD) : (dats m 0 c).arrAt 4 (cfgs 0).N = goal m c := by
  refine (dats m 0 c).arrAt_eq_of_covers 4 _ (by decide +kernel) fun t _ y => ?_
  refine Eq.trans ?_ (point m c t y)
  blk_simp
  rw [after0_4]

end Kernel

end Cert.InprojProof

end
-- ==== Proof.lean ====
/- The proof of every claim of the certificate: each program's frame, each kernel's idealization, and each call's equality
   with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.KernelIdeal.Value
public import proofs.«01_k».proof.Proof.Gen.FfnIdeal.Value
public import proofs.«01_k».proof.Proof.Gen.MixIdeal.Value
public import proofs.«01_k».proof.Proof.Gen.InprojIdeal.Value
public import proofs.«01_k».proof.Proof.Gen.ReferenceIdeal.Run
public import proofs.«01_k».proof.Proof.Gen.FfnRefIdeal.Run
public import proofs.«01_k».proof.Proof.Gen.MixRefIdeal.Run
public import proofs.«01_k».proof.Proof.Gen.InprojRefIdeal.Run
public import proofs.«01_k».proof.Proof.Gen.FfnRefIdeal.Read
public import proofs.«01_k».proof.Proof.Gen.MixRefIdeal.Read
public import proofs.«01_k».proof.Proof.Gen.InprojRefIdeal.Read
public import proofs.«01_k».proof.Proof.FfnValue
public import proofs.«01_k».proof.Proof.SsdRun
public import proofs.«01_k».proof.Proof.SsdRef
public import proofs.«01_k».proof.Proof.SsdPre
public import proofs.«01_k».proof.Proof.SsdValue
public import proofs.«01_k».proof.Proof.MixValue
public import proofs.«01_k».proof.Proof.InprojValue
public import Idealize.ShloMosaic.Adequacy
public import Idealize.ShloMosaic.Init

@[expose] public section

noncomputable section

namespace Cert.Proof

open Idealize.ShloMosaic Idealize.SL.Sem

/-- The feed-forward call equals its reference. -/
theorem ffn_value : Cert.algebraic_FfnIdeal_FfnRefIdeal := by
  pair_intro
  · run_from Cert.FfnIdeal.Gen.run_main m g
  · run_from Cert.FfnRefIdeal.Value.run m' g'
    refine (Cert.FfnRefIdeal.Read.val_main_v47_eq m' c).trans (Eq.trans ?_ (Cert.FfnProof.final m c).symm)
    obtain ⟨h0, h1, h2, h3, h4, h5⟩ := hagree c
    unfold Cert.FfnProof.goal
    rw [h0, h1, h2, h3, h4, h5]

/-- The state-space call equals its reference, where what the state is made of is finite. -/
theorem ssd_value : letI := Cert.SsdPre.facts; Cert.algebraic_KernelIdeal_ReferenceIdeal_pre_finite := by
  letI := Cert.SsdPre.facts
  pair_intro
  · run_from Cert.KernelIdeal.Value.run m g
  · run_from Cert.SsdRun.run m' g'
    refine Eq.trans ?_ ((Cert.KernelIdeal.Value.final10 m c).symm.trans (Cert.SsdValue.final m c (Cert.SsdPre.finite m hpre c))).symm
    obtain ⟨h0, h1, h2, h3, h4, h5, h6⟩ := hagree c
    refine funext fun i => ?_
    rw [Idealize.ShloMosaic.eq_ix3 i]
    refine (Cert.SsdRef.result m' c (i 0) (i 1) (i 2)).trans ?_
    unfold Cert.SsdRef.a0 Cert.SsdRef.a1 Cert.SsdRef.a2 Cert.SsdRef.a3 Cert.SsdRef.a4 Cert.SsdRef.a5 Cert.SsdRef.a6
    rw [h0, h1, h2, h3, h4, h5, h6]
    rfl

/-- The merge call equals its reference. -/
theorem mix_value : Cert.algebraic_MixIdeal_MixRefIdeal := by
  pair_intro
  · run_from Cert.MixIdeal.Gen.run_main m g
  · run_from Cert.MixRefIdeal.Value.run m' g'
    refine (Cert.MixRefIdeal.Read.val_main_v44_eq m' c).trans (Eq.trans ?_ (Cert.MixProof.final m c).symm)
    obtain ⟨h0, h1, h2, h3, h4, h5, h6, h7, h8⟩ := hagree c
    unfold Cert.MixProof.goal
    rw [h0, h1, h2, h3, h4, h5, h6, h7, h8]

/-- The projection call equals its reference. -/
theorem inproj_value : Cert.algebraic_InprojIdeal_InprojRefIdeal := by
  pair_intro
  · run_from Cert.InprojIdeal.Gen.run_main m g
  · run_from Cert.InprojRefIdeal.Value.run m' g'
    refine (Cert.InprojRefIdeal.Read.val_main_v39_eq m' c).trans (Eq.trans ?_ (Cert.InprojProof.final m c).symm)
    obtain ⟨h0, h1, h2, h3⟩ := hagree c
    unfold Cert.InprojProof.goal
    rw [h0, h1, h2, h3]

section
open Cert.FfnRefIdeal
/-- The reference's frame: it ends, with its arguments as they began and every counter at zero. -/
theorem ffn_ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => (h c).2, funext fun x => by
    rcases x with ⟨_, y⟩
    cases y <;> rename_i z <;> exact absurd z.isLt (Nat.not_lt_zero _)⟩) (Cert.FfnRefIdeal.Value.run m ρ)
end

section
open Cert.MixRefIdeal
/-- The reference's frame: it ends, with its arguments as they began and every counter at zero. -/
theorem mix_ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun _ h => ⟨fun c => (h c).2, funext fun x => by
    rcases x with ⟨_, y⟩
    cases y <;> rename_i z <;> exact absurd z.isLt (Nat.not_lt_zero _)⟩) (Cert.MixRefIdeal.Value.run m ρ)
end

section
open Cert.InprojRefIdeal
/-- The reference's frame: it ends, with its arguments as they began and every counter at zero. -/
theorem inproj_ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2, funext fun x => by
    rcases x with ⟨_, y⟩
    cases y <;> rename_i z <;> exact absurd z.isLt (Nat.not_lt_zero _)⟩) (Cert.InprojRefIdeal.Value.run m ρ)
end

/-- Every claim of the certificate. -/
theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Inproj.Gen.facts, Cert.InprojIdeal.Gen.facts, Cert.InprojRefIdeal.Gen.facts, Cert.SsdPre.facts,
   fun m ρ _ => Cert.Kernel.Gen.frame m ρ,
   fun m ρ _ => Cert.KernelIdeal.Gen.frame m ρ,
   fun m ρ _ => Cert.KernelIdeal.Gen.frame m ρ,
   fun m ρ _ => Cert.SsdRun.frame m ρ,
   fun m ρ _ => Cert.SsdRun.frame m ρ,
   fun m ρ _ => Cert.Ffn.Gen.frame m ρ,
   fun m ρ _ => Cert.FfnIdeal.Gen.frame m ρ,
   fun m ρ _ => ffn_ref_frame m ρ,
   fun m ρ _ => Cert.Mix.Gen.frame m ρ,
   fun m ρ _ => Cert.MixIdeal.Gen.frame m ρ,
   fun m ρ _ => mix_ref_frame m ρ,
   fun m ρ _ => Cert.Inproj.Gen.frame m ρ,
   fun m ρ _ => Cert.InprojIdeal.Gen.frame m ρ,
   fun m ρ _ => inproj_ref_frame m ρ,
   trivial, ssd_value, trivial, ffn_value, trivial, mix_value, trivial, inproj_value⟩

end Cert.Proof

end
